-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![2048, 768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v28) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S2048x768 : Shape := ⟨2, ![2048, 768]⟩
abbrev S768x16384 : Shape := ⟨2, ![768, 16384]⟩
abbrev S768 : Shape := ⟨1, ![768]⟩
abbrev S1x768 : Shape := ⟨2, ![1, 768]⟩
abbrev S2048x16384 : Shape := ⟨2, ![2048, 16384]⟩
abbrev S2048x65 : Shape := ⟨2, ![2048, 65]⟩
abbrev S2048x1 : Shape := ⟨2, ![2048, 1]⟩
abbrev S_ : Shape := ⟨0, ![]⟩

class Facts : Prop where
  bcast_S768_S1x768_1 : S768.BroadcastsInDim S1x768 (![1] : Fin 1 → Fin S1x768.rank)
  bcast_S1x768_S2048x768_0_1 : S1x768.BroadcastsInDim S2048x768 (![0, 1] : Fin 2 → Fin S2048x768.rank)
  sliceFits_S2048x16384_S2048x65 : S2048x16384.Slices (fun _ => 0) S2048x65
  slices_S2048x65_S2048x1_0_63 : S2048x65.Slices ![0, 63] S2048x1
  slices_S2048x65_S2048x1_0_64 : S2048x65.Slices ![0, 64] S2048x1
  bcast_S_S2048x1 : S_.BroadcastsInDim S2048x1 (![] : Fin 0 → Fin S2048x1.rank)
  bcast_S2048x1_S2048x768_0_1 : S2048x1.BroadcastsInDim S2048x768 (![0, 1] : Fin 2 → Fin S2048x768.rank)
  dot_S2048x768_S768x16384_S2048x16384_1_0_0_1_n_n_wf : DotDims.WF S2048x768 S768x16384 S2048x16384 [1] [0] [0] [1] [] []

variable [Facts]

def dot_S2048x768_S768x16384_S2048x16384_1_0_0_1_n_n : DotDims S2048x768 S768x16384 S2048x16384 where
  lhsContracting := [1]
  rhsContracting := [0]
  lhsNonContracting := [0]
  rhsNonContracting := [1]
  lhsBatch := []
  rhsBatch := []
  wf := dot_S2048x768_S768x16384_S2048x16384_1_0_0_1_n_n_wf
def fn_part1 {F : FTy → Type} [FloatOps F] (main_v15 : IVec S2048x1 1) (main_v17 : IVec S2048x1 1) : IVec S2048x768 1 :=
  let main_v18 : IVec S2048x1 1 := ori main_v17 main_v15
  let main_v19 : IVec S2048x768 1 := broadcastInDim S2048x768 ![0, 1] bcast_S2048x1_S2048x768_0_1 main_v18
  main_v19

def fn {F : FTy → Type} [FloatOps F] (main_arg0 : FVec F S2048x768 .f32) (main_arg1 : FVec F S768x16384 .f32) (main_arg2 : FVec F S768 .f32) : IVec S2048x768 1 :=
  let main_v0 : FVec F S1x768 .f32 := broadcastInDim S1x768 ![1] bcast_S768_S1x768_1 main_arg2
  let main_v1 : FVec F S2048x768 .f32 := broadcastInDim S2048x768 ![0, 1] bcast_S1x768_S2048x768_0_1 main_v0
  let main_v2 : FVec F S2048x768 .f32 := subf main_arg0 main_v1
  let main_v3 : FVec F S2048x16384 .f32 := (fun l r => Host.dotGeneral dot_S2048x768_S768x16384_S2048x16384_1_0_0_1_n_n none l r) main_v2 main_arg1
  let main_v4 : FVec F S2048x16384 .f32 := Host.absf main_v3
  let main_values : FVec F S2048x65 .f32 := (fun x => (Host.topK S2048x65 1 (FloatOps.cmpfTotal .gt) x sliceFits_S2048x16384_S2048x65).1) main_v4
  let main_indices : IVec S2048x65 32 := (fun x => (Host.topK S2048x65 1 (FloatOps.cmpfTotal .gt) x sliceFits_S2048x16384_S2048x65).2) main_v4
  let main_v5 : FVec F S2048x1 .f32 := (extractStridedSlice S2048x1 ![0, 63] · slices_S2048x65_S2048x1_0_63) main_values
  let main_v6 : FVec F S2048x1 .f32 := (extractStridedSlice S2048x1 ![0, 64] · slices_S2048x65_S2048x1_0_64) main_values
  let main_cst : FVec F S_ .f32 := constant S_ .f32 0x00800000#32
  let main_v7 : FVec F S2048x1 .f32 := broadcastInDim S2048x1 ![] bcast_S_S2048x1 main_cst
  let main_v8 : IVec S2048x1 1 := cmpf .oge main_v5 main_v7
  let main_cst_0 : FVec F S_ .f32 := constant S_ .f32 0x7F7FFFFF#32
  let main_v9 : FVec F S2048x1 .f32 := broadcastInDim S2048x1 ![] bcast_S_S2048x1 main_cst_0
  let main_v10 : IVec S2048x1 1 := cmpf .ole main_v5 main_v9
  let main_v11 : IVec S2048x1 1 := andi main_v8 main_v10
  let main_cst_1 : FVec F S_ .f32 := constant S_ .f32 0x3F800020#32
  let main_v12 : FVec F S2048x1 .f32 := broadcastInDim S2048x1 ![] bcast_S_S2048x1 main_cst_1
  let main_v13 : FVec F S2048x1 .f32 := mulf main_v6 main_v12
  let main_v14 : IVec S2048x1 1 := cmpf .ole main_v13 main_v5
  let main_v15 : IVec S2048x1 1 := andi main_v11 main_v14
  let main_cst_2 : FVec F S_ .f32 := constant S_ .f32 0x00000000#32
  let main_v16 : FVec F S2048x1 .f32 := broadcastInDim S2048x1 ![] bcast_S_S2048x1 main_cst_2
  let main_v17 : IVec S2048x1 1 := cmpf .oeq main_v6 main_v16
  fn_part1 (F := F) main_v15 main_v17
-- ==== Kernel.lean ====
abbrev S2048x768 : Shape := ⟨2, ![2048, 768]⟩
abbrev S768x16384 : Shape := ⟨2, ![768, 16384]⟩
abbrev S768 : Shape := ⟨1, ![768]⟩
abbrev S1x768 : Shape := ⟨2, ![1, 768]⟩
abbrev S64x768 : Shape := ⟨2, ![64, 768]⟩
abbrev S64x16384 : Shape := ⟨2, ![64, 16384]⟩
abbrev S64x1 : Shape := ⟨2, ![64, 1]⟩
abbrev S64 : Shape := ⟨1, ![64]⟩

abbrev nBuf : Space → Nat
  | .hbm => 5
  | .vmem => 8
  | .smem => 0
  | _ => 0

abbrev bufTy : (tb : Table) → Fin (tcTables nBuf tb) → BufTy
  | .hbm, ⟨0, _⟩ => ⟨S2048x768, .f32⟩
  | .hbm, ⟨1, _⟩ => ⟨S768x16384, .f32⟩
  | .hbm, ⟨2, _⟩ => ⟨S768, .f32⟩
  | .hbm, ⟨3, _⟩ => ⟨S1x768, .f32⟩
  | .hbm, ⟨4, _⟩ => ⟨S2048x768, .f32⟩
  | .local _ .vmem, ⟨0, _⟩ => ⟨S64x768, .f32⟩
  | .local _ .vmem, ⟨1, _⟩ => ⟨S64x768, .f32⟩
  | .local _ .vmem, ⟨2, _⟩ => ⟨S768x16384, .f32⟩
  | .local _ .vmem, ⟨3, _⟩ => ⟨S1x768, .f32⟩
  | .local _ .vmem, ⟨4, _⟩ => ⟨S64x768, .f32⟩
  | .local _ .vmem, ⟨5, _⟩ => ⟨S64x768, .f32⟩
  | .local _ .vmem, ⟨6, _⟩ => ⟨S64x16384, .f32⟩
  | .local _ .vmem, ⟨7, _⟩ => ⟨S64x16384, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_9 : BitVec 32 := 0#32
  let c26_i32 : BitVec 32 := 26#32
  let v15 : BitVec 32 := Scalar.addi c0_i32_9 c26_i32
  let c1_i32 : BitVec 32 := 1#32
  ⟨c0_i32_9, v15, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2048x768 : Shape := ⟨2, ![2048, 768]⟩
abbrev S768x16384 : Shape := ⟨2, ![768, 16384]⟩
abbrev S768 : Shape := ⟨1, ![768]⟩
abbrev S1x768 : Shape := ⟨2, ![1, 768]⟩
abbrev S2048x16384 : Shape := ⟨2, ![2048, 16384]⟩
abbrev S2048x64 : Shape := ⟨2, ![2048, 64]⟩
abbrev S_ : Shape := ⟨0, ![]⟩
abbrev S2048x64x1 : Shape := ⟨3, ![2048, 64, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x64x2 : Shape := ⟨3, ![2048, 64, 2]⟩
abbrev S16384x768 : Shape := ⟨2, ![16384, 768]⟩

abbrev nBuf : Space → Nat
  | .hbm => 60
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S768x16384, .f32⟩
  | .hbm, ⟨2, _⟩ => ⟨S768, .f32⟩
  | .hbm, ⟨3, _⟩ => ⟨S1x768, .f32⟩
  | .hbm, ⟨4, _⟩ => ⟨S2048x768, .f32⟩
  | .hbm, ⟨5, _⟩ => ⟨S2048x768, .f32⟩
  | .hbm, ⟨6, _⟩ => ⟨S2048x16384, .f32⟩
  | .hbm, ⟨7, _⟩ => ⟨S2048x16384, .f32⟩
  | .hbm, ⟨8, _⟩ => ⟨S2048x64, .f32⟩
  | .hbm, ⟨9, _⟩ => ⟨S2048x64, .i32⟩
  | .hbm, ⟨10, _⟩ => ⟨S_, .i32⟩
  | .hbm, ⟨11, _⟩ => ⟨S2048x64, .i32⟩
  | .hbm, ⟨12, _⟩ => ⟨S2048x64, .i1⟩
  | .hbm, ⟨13, _⟩ => ⟨S_, .i32⟩
  | .hbm, ⟨14, _⟩ => ⟨S2048x64, .i32⟩
  | .hbm, ⟨15, _⟩ => ⟨S2048x64, .i32⟩
  | .hbm, ⟨16, _⟩ => ⟨S2048x64, .i32⟩
  | .hbm, ⟨17, _⟩ => ⟨S2048x64x1, .i32⟩
  | .hbm, ⟨18, _⟩ => ⟨S1, .i32⟩
  | .hbm, ⟨19, _⟩ => ⟨S_, .i32⟩
  | .hbm, ⟨20, _⟩ => ⟨S2048x64x1, .i32⟩
  | .hbm, ⟨21, _⟩ => ⟨S2048x64x1, .i1⟩
  | .hbm, ⟨22, _⟩ => ⟨S1x1x1, .i32⟩
  | .hbm, ⟨23, _⟩ => ⟨S2048x64x1, .i32⟩
  | .hbm, ⟨24, _⟩ => ⟨S2048x64x1, .i1⟩
  | .hbm, ⟨25, _⟩ => ⟨S2048x64x1, .i1⟩
  | .hbm, ⟨26, _⟩ => ⟨S_, .i1⟩
  | .hbm, ⟨27, _⟩ => ⟨S2048x64, .i1⟩
  | .hbm, ⟨28, _⟩ => ⟨S2048x64, .f32⟩
  | .hbm, ⟨29, _⟩ => ⟨S_, .f32⟩
  | .hbm, ⟨30, _⟩ => ⟨S2048x64, .f32⟩
  | .hbm, ⟨31, _⟩ => ⟨S2048x64, .f32⟩
  | .hbm, ⟨32, _⟩ => ⟨S2048, .i32⟩
  | .hbm, ⟨33, _⟩ => ⟨S2048x1, .i32⟩
  | .hbm, ⟨34, _⟩ => ⟨S_, .f32⟩
  | .hbm, ⟨35, _⟩ => ⟨S2048x16384, .f32⟩
  | .hbm, ⟨36, _⟩ => ⟨S_, .i32⟩
  | .hbm, ⟨37, _⟩ => ⟨S2048x1, .i32⟩
  | .hbm, ⟨38, _⟩ => ⟨S2048x1, .i1⟩
  | .hbm, ⟨39, _⟩ => ⟨S_, .i32⟩
  | .hbm, ⟨40, _⟩ => ⟨S2048x1, .i32⟩
  | .hbm, ⟨41, _⟩ => ⟨S2048x1, .i32⟩
  | .hbm, ⟨42, _⟩ => ⟨S2048x1, .i32⟩
  | .hbm, ⟨43, _⟩ => ⟨S_, .i32⟩
  | .hbm, ⟨44, _⟩ => ⟨S2048x64, .i32⟩
  | .hbm, ⟨45, _⟩ => ⟨S2048x64, .i1⟩
  | .hbm, ⟨46, _⟩ => ⟨S_, .i32⟩
  | .hbm, ⟨47, _⟩ => ⟨S2048x64, .i32⟩
  | .hbm, ⟨48, _⟩ => ⟨S2048x64, .i32⟩
  | .hbm, ⟨49, _⟩ => ⟨S2048x64, .i32⟩
  | .hbm, ⟨50, _⟩ => ⟨S2048x64, .i32⟩
  | .hbm, ⟨51, _⟩ => ⟨S2048x64x1, .i32⟩
  | .hbm, ⟨52, _⟩ => ⟨S2048x64x1, .i32⟩
  | .hbm, ⟨53, _⟩ => ⟨S2048x64x2, .i32⟩
  | .hbm, ⟨54, _⟩ => ⟨S2048x16384, .f32⟩
  | .hbm, ⟨55, _⟩ => ⟨S16384x768, .f32⟩
  | .hbm, ⟨56, _⟩ => ⟨S2048x768, .f32⟩
  | .hbm, ⟨57, _⟩ => ⟨S1x768, .f32⟩
  | .hbm, ⟨58, _⟩ => ⟨S2048x768, .f32⟩
  | .hbm, ⟨59, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_values : Ref sig .tc := ⟨.hbm, 8, rfl⟩
abbrev main_indices : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_c : Ref sig .tc := ⟨.hbm, 36, rfl⟩
abbrev main_v9 : Ref sig .tc := ⟨.hbm, 37, rfl⟩
abbrev main_v10 : Ref sig .tc := ⟨.hbm, 38, rfl⟩
abbrev main_c_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_1 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]
-- ==== Proof.Block.lean ====
/- What one grid point of the kernel leaves in its output block, as a term of its input blocks: the last
   payload over the two scratch arrays' contents and the pattern the counted loop ends with. -/
module

public import proofs.«01_k».proof.Proof.Gen.KernelIdeal.Value
public import Idealize.ShloMosaic.Lib.Pipeline.Value
public import Idealize.ShloMosaic.Lib.Tactic
public import Idealize.ShloMosaic.Lib.Pointwise

@[expose] public section

noncomputable section

namespace Cert.Proof.Block

open Cert.KernelIdeal Cert.KernelIdeal.Gen Idealize.ShloMosaic Idealize.ShloMosaic.TcCoe

variable {F : FTy → Type} [FloatOps F]

/-- The offset of an access to a whole array is zero. -/
theorem hz : (![0, 0] : Fin 2 → Nat) = fun _ => 0 := funext fun a => by fin_cases a <;> rfl

/-- The pattern of every row before trip `k` of the search over the magnitudes `v`. -/
def pat (v : Vec F S64x16384 .f32) : ℕ → IVec S64x1 32
  | 0 => k0_pay4
  | k + 1 => if h : k < k0_t1_loop.trips then k0_pay5 ⟨k, h⟩ (pat v k) v else pat v k

/-- One trip of the search is its payload at the magnitudes it reads. -/
theorem tripR_eq (𝒱 : Variants) (c : Dev nD) (bd : Option 𝒱.V) (i : grid0.Coords) (a1 : Memref sig .tc .vmem S64x768 .f32) (h1 : a1.IsWhole) (a2 : Memref sig .tc .vmem S768x16384 .f32) (h2 : a2.IsWhole) (a3 : Memref sig .tc .vmem S1x768 .f32) (h3 : a3.IsWhole) (a4 : Memref sig .tc .vmem S64x768 .f32) (h4 : a4.IsWhole) (a5 : Memref sig .tc .vmem S64x16384 .f32) (h5 : a5.IsWhole) (a6 : Memref sig .tc .vmem S64x16384 .f32) (h6 : a6.IsWhole) (X : BufTy.Contents (Elt F) a6.view.ty) (k : Fin k0_t1_loop.trips) (acc : IVec S64x1 32) :
    tripR_k0_t1 𝒱 c bd i a1 h1 a2 h2 a3 h3 a4 h4 a5 h5 a6 h6 X k acc
      = k0_pay5 k acc (a6.view.read (Elt F) X) := by
  unfold tripR_k0_t1 trip_k0_t1
  dsimp only
  sl_unfold_words
  simp only [View.readAt_eq_ld, View.ld_unit_zero (S := S64x16384) hz]

/-- The loop's carried value is that pattern, on the magnitudes the scratch array holds. -/
theorem st_eq (𝒱 : Variants) (c : Dev nD) (bd : Option 𝒱.V) (i : grid0.Coords) (a1 : Memref sig .tc .vmem S64x768 .f32) (h1 : a1.IsWhole) (a2 : Memref sig .tc .vmem S768x16384 .f32) (h2 : a2.IsWhole) (a3 : Memref sig .tc .vmem S1x768 .f32) (h3 : a3.IsWhole) (a4 : Memref sig .tc .vmem S64x768 .f32) (h4 : a4.IsWhole) (a5 : Memref sig .tc .vmem S64x16384 .f32) (h5 : a5.IsWhole) (a6 : Memref sig .tc .vmem S64x16384 .f32) (h6 : a6.IsWhole) (X : BufTy.Contents (Elt F) a6.view.ty) (n : ℕ) :
    st_k0_t1 𝒱 c bd i a1 h1 a2 h2 a3 h3 a4 h4 a5 h5 a6 h6 X k0_pay4 n = pat (a6.view.read (Elt F) X) n := by
  induction n with
  | zero => rfl
  | succ n ih =>
    rw [st_k0_t1.eq_2]
    unfold st_k0_t1Step pat
    split
    · rw [tripR_eq, ih]
    · exact ih

/-- A scratch array stored whole reads back what was stored. -/
theorem read_whole (a : Memref sig .tc .vmem S64x16384 .f32) (f : BufTy.Contents (Elt F) a.view.ty) (w : Vec F S64x16384 .f32) :
    a.view.read (Elt F) (a.view.writes (Elt F) f [⟨Rect.unit ![0, 0] ![64, 16384] inb_S64x16384_S64x16384_0_0, w⟩]) = w := by
  rw [View.read_writes_eq_canon _ _ _ (fun y => ⟨_, List.mem_singleton_self _, ?_⟩), View.canon_unit_zero hz]
  rw [Rect.mem_set_unit]
  intro b
  match b with
  | ⟨0, _⟩ => exact ⟨Nat.zero_le _, by simpa using (y 0).isLt⟩
  | ⟨1, _⟩ => exact ⟨Nat.zero_le _, by simpa using (y 1).isLt⟩

/-- The block a point leaves: the last payload over the pattern, the magnitudes and the features of the point's rows. -/
theorem out_A (c : Dev nD) (i : grid0.Coords) (a1 : Memref sig .tc .vmem S64x768 .f32) (h1 : a1.IsWhole) (a2 : Memref sig .tc .vmem S768x16384 .f32) (h2 : a2.IsWhole) (a3 : Memref sig .tc .vmem S1x768 .f32) (h3 : a3.IsWhole) (a4 : Memref sig .tc .vmem S64x768 .f32) (h4 : a4.IsWhole) (a5 : Memref sig .tc .vmem S64x16384 .f32) (h5 : a5.IsWhole) (a6 : Memref sig .tc .vmem S64x16384 .f32) (h6 : a6.IsWhole) (x0 : Vec F S64x768 .f32) (x1 : Vec F S768x16384 .f32) (x2 : Vec F S1x768 .f32) :
    out0_A_3 c i a1 h1 a2 h2 a3 h3 a4 h4 a5 h5 a6 h6 x0 x1 x2
      = k0_pay6 (pat (k0_pay3 x0 x2 x1) k0_t1_loop.trips) (k0_pay3 x0 x2 x1) (k0_pay2 x0 x2 x1) x1 x2 := by
  unfold out0_A_3
  rw [View.read_writes_eq_canon _ _ _ (cover0_A_3 c i a1 h1 a2 h2 a3 h3 a4 h4 a5 h5 a6 h6 x0 x1 x2)]
  unfold kernelRun0_A
  dsimp only
  sl_unfold_words
  rw [View.canon_unit_zero hz]
  simp only [View.readAt_eq_ld, h1.read_unread, h2.read_unread, h3.read_unread, View.ld_unit_zero (S := S64x16384) hz, View.ld_unit_zero (S := S64x768) hz, View.ld_unit_zero (S := S1x768) hz, View.ld_unit_zero (S := S768x16384) hz, st_eq, read_whole]
  have e1 : ∀ w : Vec F S64x16384 .f32, a6.view.readCov (Val := Elt F) [⟨Rect.unit ![0, 0] ![64, 16384] inb_S64x16384_S64x16384_0_0, w⟩]
      (Rect.unit ![0, 0] ![64, 16384] inb_S64x16384_S64x16384_0_0).toLoadRect = w := fun w =>
    View.readCov_unit_zero (S := S64x16384) _ hz _ _
  have e2 : ∀ w : Vec F S64x16384 .f32, a5.view.readCov (Val := Elt F) [⟨Rect.unit ![0, 0] ![64, 16384] inb_S64x16384_S64x16384_0_0, w⟩]
      (Rect.unit ![0, 0] ![64, 16384] inb_S64x16384_S64x16384_0_0).toLoadRect = w := fun w =>
    View.readCov_unit_zero (S := S64x16384) _ hz _ _
  rw [e1, e2]

end Cert.Proof.Block

end
-- ==== Proof.Search.lean ====
/- The bit search of a top-k threshold, as mathematics: on a row of magnitudes, the greedy search over the bit
   patterns of 32-bit floats ends at a pattern whose value separates the kept magnitudes from the dropped ones,
   whenever the two groups are a little apart. No program is named here. -/
module

public import Idealize.ShloMosaic.Lib.TotalOrder
public import Mathlib.Data.Fintype.Card
public import Mathlib.Tactic.Linarith
public import Mathlib.Tactic.IntervalCases
public import Mathlib.Tactic.Ring
public import Mathlib.Tactic.NormNum
public import Mathlib.Tactic.Positivity

@[expose] public section

noncomputable section

namespace Cert.Search

open Idealize.ShloMosaic Idealize.ShloMosaic.TotalOrder

/-- The extended real that a 32-bit float pattern denotes. -/
def val (b : BitVec 32) : EReal := Ideal.ieee 8 23 b

/-- The value of the pattern whose number is `n`. -/
abbrev vn (n : ℕ) : EReal := val (BitVec.ofNat 32 n)

theorem expo_ofNat {n : ℕ} (h : n < 2 ^ 31) : expo 8 23 (BitVec.ofNat 32 n) = n / 2 ^ 23 := by
  rw [expo_eq, BitVec.toNat_ofNat]; omega

theorem frac_ofNat {n : ℕ} (h : n < 2 ^ 31) : frac 23 (BitVec.ofNat 32 n) = n % 2 ^ 23 := by
  rw [frac_eq, BitVec.toNat_ofNat]; omega

theorem mag_ofNat {n : ℕ} (h : n < 2 ^ 31) : mag 8 23 (BitVec.ofNat 32 n) = n := by
  unfold mag; rw [expo_ofNat h, frac_ofNat h]; omega

theorem sign_ofNat {n : ℕ} (h : n < 2 ^ 31) : sign 8 23 (BitVec.ofNat 32 n) = false := by
  have : sign 8 23 (BitVec.ofNat (8 + 23 + 1) n) = (BitVec.ofNat (8 + 23 + 1) n).msb := sign_eq_msb _
  refine this.trans ?_
  rw [BitVec.msb_eq_false_iff_two_mul_lt, BitVec.toNat_ofNat]; omega

/-- A pattern up to the infinity's is no NaN. -/
theorem not_isNaN_ofNat {n : ℕ} (h : n ≤ 0x7F800000) : ¬IsNaN 8 23 (BitVec.ofNat 32 n) := by
  unfold IsNaN
  rw [expo_ofNat (by omega), frac_ofNat (by omega)]
  omega

/-- Such a pattern denotes its magnitude. -/
theorem vn_eq_absVal {n : ℕ} (h : n ≤ 0x7F800000) : vn n = absVal 8 23 (BitVec.ofNat 32 n) := by
  unfold vn val
  rw [ieee_eq_signed_absVal (not_isNaN_ofNat h), sign_ofNat (by omega)]
  simp

/-- The values increase with the patterns, up to the infinity's. -/
theorem vn_lt {a b : ℕ} (hb : b ≤ 0x7F800000) (h : a < b) : vn a < vn b := by
  rw [vn_eq_absVal (by omega), vn_eq_absVal hb,
    absVal_lt_absVal_iff (not_isNaN_ofNat (by omega)) (not_isNaN_ofNat hb), mag_ofNat (by omega), mag_ofNat (by omega)]
  exact h

theorem vn_le {a b : ℕ} (hb : b ≤ 0x7F800000) (h : a ≤ b) : vn a ≤ vn b := by
  rcases Nat.eq_or_lt_of_le h with rfl | h
  · exact le_rfl
  · exact (vn_lt hb h).le

/-- The zero pattern denotes zero. -/
theorem vn_zero : vn 0 = 0 := by
  rw [vn_eq_absVal (by omega)]
  unfold absVal
  rw [expo_ofNat (by omega), frac_ofNat (by omega)]
  simp [sig]

/-- The infinity's pattern denotes it. -/
theorem vn_inf : vn 0x7F800000 = ⊤ := by
  rw [vn_eq_absVal (by omega)]
  unfold absVal
  rw [expo_ofNat (by omega)]
  simp

/-- A finite pattern denotes a whole number of units. -/
theorem vn_fin {n : ℕ} (h : n < 0x7F800000) :
    vn n = (((sig 23 (n / 2 ^ 23) (n % 2 ^ 23) : ℝ) * ulp 8 23 : ℝ) : EReal) := by
  rw [vn_eq_absVal (by omega)]
  unfold absVal
  rw [expo_ofNat (by omega), frac_ofNat (by omega), if_neg (by omega)]

/-- The factor by which the kept magnitudes are to exceed the dropped ones: `1 + 2⁻¹⁸`. -/
theorem val_gap : val 0x3F800020#32 = ((1 + 1 / 2 ^ 18 : ℝ) : EReal) := by
  show vn 0x3F800020 = _
  rw [vn_fin (by omega)]
  congr 1
  unfold sig ulp
  norm_num [zpow_neg]

/-- Thirty-two patterns further on, the units have grown by a factor of at most `1 + 2⁻¹⁸`, among normal numbers. -/
theorem sig_step {n : ℕ} (hlo : 0x00800000 ≤ n) (h32 : 32 ∣ n) :
    2 ^ 18 * sig 23 ((n + 32) / 2 ^ 23) ((n + 32) % 2 ^ 23) ≤ (2 ^ 18 + 1) * sig 23 (n / 2 ^ 23) (n % 2 ^ 23) := by
  unfold sig
  have hE : n / 2 ^ 23 ≠ 0 := by omega
  have hE' : (n + 32) / 2 ^ 23 ≠ 0 := by omega
  rw [if_neg hE, if_neg hE']
  by_cases hx : n % 2 ^ 23 + 32 < 2 ^ 23
  · have h1 : (n + 32) / 2 ^ 23 = n / 2 ^ 23 := by omega
    have h2 : (n + 32) % 2 ^ 23 = n % 2 ^ 23 + 32 := by omega
    rw [h1, h2]
    have : 2 ^ 18 * (n % 2 ^ 23 + 32 + 2 ^ 23) ≤ (2 ^ 18 + 1) * (n % 2 ^ 23 + 2 ^ 23) := by omega
    calc 2 ^ 18 * ((n % 2 ^ 23 + 32 + 2 ^ 23) * 2 ^ (n / 2 ^ 23 - 1))
        = (2 ^ 18 * (n % 2 ^ 23 + 32 + 2 ^ 23)) * 2 ^ (n / 2 ^ 23 - 1) := by ring
      _ ≤ ((2 ^ 18 + 1) * (n % 2 ^ 23 + 2 ^ 23)) * 2 ^ (n / 2 ^ 23 - 1) := Nat.mul_le_mul_right _ this
      _ = _ := by ring
  · have h1 : (n + 32) / 2 ^ 23 = n / 2 ^ 23 + 1 := by omega
    have h2 : (n + 32) % 2 ^ 23 = 0 := by omega
    have h3 : n % 2 ^ 23 = 2 ^ 23 - 32 := by omega
    rw [h1, h2, h3]
    have h4 : n / 2 ^ 23 + 1 - 1 = (n / 2 ^ 23 - 1) + 1 := by omega
    have h5 : 2 ^ (n / 2 ^ 23 + 1 - 1) = 2 * 2 ^ (n / 2 ^ 23 - 1) := by rw [h4, pow_succ, Nat.mul_comm]
    rw [h5]
    calc 2 ^ 18 * ((0 + 2 ^ 23) * (2 * 2 ^ (n / 2 ^ 23 - 1)))
        = (2 ^ 18 * 2 ^ 24) * 2 ^ (n / 2 ^ 23 - 1) := by ring
      _ ≤ ((2 ^ 18 + 1) * (2 ^ 23 - 32 + 2 ^ 23)) * 2 ^ (n / 2 ^ 23 - 1) := Nat.mul_le_mul_right _ (by norm_num)
      _ = _ := by ring

/-- If `v` is a finite float's value or less and is below the value thirty-two patterns after `n`, then it is below
    `1 + 2⁻¹⁸` times the value of `n`: hence what is smaller than it by that factor is below the value of `n`. -/
theorem lt_of_gap {n : ℕ} (hlo : 0x00800000 ≤ n) (hhi : n < 0x7F800000) (h32 : 32 ∣ n) {u v : EReal} (hu : 0 ≤ u)
    (hmax : v ≤ vn 0x7F7FFFFF) (hnext : n + 32 < 0x7F800000 → v < vn (n + 32)) (hgap : u * val 0x3F800020#32 ≤ v) :
    u < vn n := by
  have hvtop : v < ⊤ := lt_of_le_of_lt hmax (by rw [vn_fin (by omega)]; exact EReal.coe_lt_top _)
  have hutop : u ≠ ⊤ := by
    rintro rfl
    rw [val_gap, EReal.top_mul_coe_of_pos (by positivity)] at hgap
    exact absurd (lt_of_le_of_lt hgap hvtop) (lt_irrefl _)
  have hubot : u ≠ ⊥ := fun h => by rw [h] at hu; exact absurd hu (by simp)
  lift u to ℝ using ⟨hutop, hubot⟩
  rw [val_gap, ← EReal.coe_mul] at hgap
  have hulp := ulp_pos 8 23
  have key : u * (1 + 1 / 2 ^ 18) < ((sig 23 (n / 2 ^ 23) (n % 2 ^ 23) : ℝ) * ulp 8 23) * (1 + 1 / 2 ^ 18) := by
    by_cases hn : n + 32 < 0x7F800000
    · have h1 := lt_of_le_of_lt hgap (hnext hn)
      rw [vn_fin hn, EReal.coe_lt_coe_iff] at h1
      refine lt_of_lt_of_le h1 ?_
      have h2 : ((2 ^ 18 * sig 23 ((n + 32) / 2 ^ 23) ((n + 32) % 2 ^ 23) : ℕ) : ℝ)
          ≤ (((2 ^ 18 + 1) * sig 23 (n / 2 ^ 23) (n % 2 ^ 23) : ℕ) : ℝ) := Nat.cast_le.mpr (sig_step hlo h32)
      push_cast at h2
      have h3 := mul_le_mul_of_nonneg_right h2 hulp.le
      nlinarith
    · have hn' : n = 0x7F7FFFE0 := by omega
      have h1 := le_trans hgap hmax
      rw [vn_fin (by omega), EReal.coe_le_coe_iff] at h1
      refine lt_of_le_of_lt h1 ?_
      subst hn'
      rw [mul_right_comm]
      refine mul_lt_mul_of_pos_right ?_ hulp
      unfold sig
      norm_num
  rw [vn_fin hhi, EReal.coe_lt_coe_iff]
  exact lt_of_mul_lt_mul_right key (by positivity)

/-! ## The search -/

section

variable {n : ℕ} (a : Fin n → EReal)

/-- How many of the magnitudes are at least the value of pattern `t`. -/
def cnt (t : BitVec 32) : ℕ := (Finset.univ.filter fun j => val t ≤ a j).card

/-- The search's trip `k`: bit `30 - k` is set if sixty-four magnitudes or more are at least the value with it set. -/
def step (k : ℕ) (t : BitVec 32) : BitVec 32 :=
  if 64 ≤ cnt a (t ||| BitVec.ofNat 32 (2 ^ (30 - k))) then t ||| BitVec.ofNat 32 (2 ^ (30 - k)) else t

/-- The pattern after `k` trips from zero. -/
def search : ℕ → BitVec 32
  | 0 => 0#32
  | k + 1 => step a k (search k)

/-- Setting a clear bit over clear lower bits is adding it. -/
theorem or_bit {q i : ℕ} (hi : i < 31) (hq : q * 2 ^ (i + 1) < 2 ^ 31) :
    BitVec.ofNat 32 (q * 2 ^ (i + 1)) ||| BitVec.ofNat 32 (2 ^ i) = BitVec.ofNat 32 (q * 2 ^ (i + 1) + 2 ^ i) := by
  have hlt : 2 ^ i < 2 ^ (i + 1) := Nat.pow_lt_pow_right (by decide) (by omega)
  have h := Nat.two_pow_add_eq_or_of_lt hlt q
  rw [← BitVec.ofNat_or, Nat.mul_comm q, h]

theorem cnt_anti {s t : BitVec 32} (h : val s ≤ val t) : cnt a t ≤ cnt a s :=
  Finset.card_le_card fun j hj => by
    rw [Finset.mem_filter] at hj ⊢
    exact ⟨hj.1, h.trans hj.2⟩

/-- The search keeps sixty-four magnitudes at least its pattern's value. -/
theorem search_cnt (h0 : 64 ≤ cnt a 0#32) (k : ℕ) : 64 ≤ cnt a (search a k) := by
  induction k with
  | zero => exact h0
  | succ k ih =>
    unfold search step
    split
    · assumption
    · exact ih

/-- Before trip `k` the pattern is a multiple of `2^(31-k)`, is below the infinity's if fewer than sixty-four
    magnitudes are infinite, and no pattern from `2^(31-k)` above it on, up to the infinity's, has sixty-four magnitudes
    at least its value. -/
theorem search_inv (hinf : ¬64 ≤ cnt a (BitVec.ofNat 32 0x7F800000)) (k : ℕ) (hk : k ≤ 26) :
    ∃ q : ℕ, search a k = BitVec.ofNat 32 (q * 2 ^ (31 - k)) ∧ q * 2 ^ (31 - k) < 0x7F800000
      ∧ ∀ c, c ≤ 0x7F800000 → 64 ≤ cnt a (BitVec.ofNat 32 c) → c < q * 2 ^ (31 - k) + 2 ^ (31 - k) := by
  induction k with
  | zero => exact ⟨0, by simp [search], by omega, fun c hc _ => by omega⟩
  | succ k ih =>
    obtain ⟨q, hq, hlt, hmax⟩ := ih (by omega)
    have e1 : 31 - k = (30 - k) + 1 := by omega
    have e2 : 31 - (k + 1) = 30 - k := by omega
    have hp : 2 ^ (31 - k) = 2 * 2 ^ (30 - k) := by rw [e1, Nat.pow_succ, Nat.mul_comm]
    have hcand : q * 2 ^ (31 - k) + 2 ^ (30 - k) ≤ 0x7F800000 := by
      clear hmax hq
      have hk' : k < 26 := by omega
      interval_cases k <;> norm_num at hlt ⊢ <;> omega
    have hor : search a k ||| BitVec.ofNat 32 (2 ^ (30 - k)) = BitVec.ofNat 32 (q * 2 ^ (31 - k) + 2 ^ (30 - k)) := by
      rw [hq, e1]; exact or_bit (by omega) (by rw [← e1]; omega)
    unfold search step
    rw [hor, e2]
    split
    · next hc =>
      refine ⟨2 * q + 1, ?_, ?_, ?_⟩
      · congr 1; rw [hp]; ring
      · have hne : q * 2 ^ (31 - k) + 2 ^ (30 - k) ≠ 0x7F800000 := fun e => hinf (e ▸ hc)
        rw [show (2 * q + 1) * 2 ^ (30 - k) = q * 2 ^ (31 - k) + 2 ^ (30 - k) by rw [hp]; ring]
        omega
      · intro c hc hcc
        have := hmax c hc hcc
        rw [show (2 * q + 1) * 2 ^ (30 - k) = q * 2 ^ (31 - k) + 2 ^ (30 - k) by rw [hp]; ring]
        omega
    · next hc =>
      refine ⟨2 * q, ?_, ?_, ?_⟩
      · rw [hq]; congr 1; rw [hp]; ring
      · rw [show 2 * q * 2 ^ (30 - k) = q * 2 ^ (31 - k) by rw [hp]; ring]; exact hlt
      · intro c hc' hcc
        rw [show 2 * q * 2 ^ (30 - k) = q * 2 ^ (31 - k) by rw [hp]; ring]
        by_contra hge
        exact hc (hcc.trans (cnt_anti a (vn_le hc' (by omega))))

/-! ## What the search selects -/

variable (S : Finset (Fin n)) (hS : S.card = 64)

include hS

/-- A pattern that sixty-four magnitudes reach has a value that each of the sixty-four largest reaches. -/
theorem le_of_cnt (hord : ∀ i ∈ S, ∀ j ∉ S, a j ≤ a i) {t : BitVec 32} (ht : 64 ≤ cnt a t) : ∀ i ∈ S, val t ≤ a i := by
  intro i hi
  by_contra hlt
  have hsub : (Finset.univ.filter fun j => val t ≤ a j) ⊆ S.erase i := by
    intro j hj
    rw [Finset.mem_filter] at hj
    have hji : j ≠ i := fun e => hlt (e ▸ hj.2)
    refine Finset.mem_erase.mpr ⟨hji, ?_⟩
    by_contra hjS
    exact hlt (hj.2.trans (hord i hi j hjS))
  have h1 := Finset.card_le_card hsub
  rw [Finset.card_erase_of_mem hi, hS] at h1
  unfold cnt at ht
  omega

/-- A pattern whose value the sixty-four largest reach is reached sixty-four times. -/
theorem cnt_of_le {t : BitVec 32} (ht : ∀ i ∈ S, val t ≤ a i) : 64 ≤ cnt a t := by
  rw [← hS]
  exact Finset.card_le_card fun i hi => Finset.mem_filter.mpr ⟨Finset.mem_univ _, ht i hi⟩

/-- THE SEARCH SELECTS THE SIXTY-FOUR LARGEST: let `kept` be the least magnitude of `S`, sixty-four positions, and
    `dropped` at least every other. If `dropped` is zero, or `kept` is a normal float's size and is at least `1 + 2⁻¹⁸` times
    `dropped`, then after twenty-six trips the magnitudes that reach the pattern's value are those of `S` — apart from
    magnitudes that are zero. -/
theorem select_iff (ha : ∀ j, 0 ≤ a j) {kept dropped : EReal} (hk : ∀ i ∈ S, kept ≤ a i) (hk' : ∃ i ∈ S, a i = kept)
    (hd : ∀ j ∉ S, a j ≤ dropped) (hd0 : 0 ≤ dropped) (hdk : dropped ≤ kept)
    (hsep : dropped = 0 ∨ (val 0x00800000#32 ≤ kept ∧ kept ≤ val 0x7F7FFFFF#32 ∧ dropped * val 0x3F800020#32 ≤ kept))
    (j : Fin n) : a j = 0 ∨ (val (search a 26) ≤ a j ↔ j ∈ S) := by
  have h0 : 64 ≤ cnt a 0#32 := cnt_of_le a S hS fun i _ => by
    have : val 0#32 = 0 := vn_zero
    rw [this]; exact ha i
  have hord : ∀ i ∈ S, ∀ j ∉ S, a j ≤ a i := fun i hi j hj => (hd j hj).trans (hdk.trans (hk i hi))
  have hin := le_of_cnt a S hS hord (search_cnt a h0 26)
  rcases hsep with hz | ⟨hlo, hhi, hgap⟩
  · by_cases hj : j ∈ S
    · exact Or.inr ⟨fun _ => hj, fun _ => hin j hj⟩
    · exact Or.inl (le_antisymm ((hd j hj).trans hz.le) (ha j))
  · right
    refine ⟨fun h => ?_, hin j⟩
    by_contra hjS
    obtain ⟨i0, hi0, hi0k⟩ := hk'
    have hkept : ∀ {t : BitVec 32}, ¬64 ≤ cnt a t → kept < val t := fun {t} ht => by
      by_contra hge
      exact ht (cnt_of_le a S hS fun i hi => (not_lt.mp hge).trans (hk i hi))
    have hinf : ¬64 ≤ cnt a (BitVec.ofNat 32 0x7F800000) := fun hc => by
      have h1 : vn 0x7F800000 ≤ a i0 := le_of_cnt a S hS hord hc i0 hi0
      rw [hi0k] at h1
      exact absurd (lt_of_le_of_lt (h1.trans hhi) (vn_lt (le_refl _) (by omega : 0x7F7FFFFF < 0x7F800000))) (lt_irrefl _)
    obtain ⟨q, hq, hlt, hmax⟩ := search_inv a hinf 26 le_rfl
    norm_num at hq hlt hmax
    have hge := hmax 0x00800000 (by omega) (cnt_of_le a S hS fun i hi => hlo.trans (hk i hi))
    have hlt' : dropped < vn (q * 32) := by
      refine lt_of_gap (by omega) hlt ⟨q, by ring⟩ hd0 hhi (fun hn => hkept fun hc => ?_) hgap
      have := hmax (q * 32 + 32) (by omega) hc
      omega
    rw [hq] at h
    exact absurd (lt_of_lt_of_le hlt' h) (not_lt.mpr (hd j hjS))

end

end Cert.Search

end
-- ==== Proof.BlockIdeal.lean ====
/- The kernel's block over the extended reals, read at an index: each row's features, the pattern its search ends
   with, and the decoded row. -/
module

public import proofs.«01_k».proof.Proof.Block
public import proofs.«01_k».proof.Proof.Search

@[expose] public section

noncomputable section

namespace Cert.Proof.Block

open Cert.KernelIdeal Cert.KernelIdeal.Gen Idealize.ShloMosaic Idealize.ShloMosaic.TcCoe Cert.Search

/-- Feature `j` of row `r` of a block of rows `x0`, with the weights `x1` and the bias row `x2`. -/
def bfeat (x0 : Vec Ideal S64x768 .f32) (x1 : Vec Ideal S768x16384 .f32) (x2 : Vec Ideal S1x768 .f32) (r : Fin 64) (j : Fin 16384) : EReal :=
  ∑ k : Fin 768, (x0 (ix2 r k) - x2 (ix2 0 k)) * x1 (ix2 k j)

/-- The first payload is the features. -/
theorem pay1_apply (x0 : Vec Ideal S64x768 .f32) (x1 : Vec Ideal S768x16384 .f32) (x2 : Vec Ideal S1x768 .f32) (r : Fin 64) (j : Fin 16384) :
    k0_pay1 x0 x2 x1 (ix2 r j) = bfeat x0 x1 x2 r j := by
  unfold k0_pay1 bfeat
  pointwise

/-- The float pattern of sixty-four. -/
theorem ofBits_64 : Ideal.ofBits FTy.f32 0x42800000#32 = ((64 : ℕ) : EReal) := by
  show vn 0x42800000 = _
  rw [vn_fin (by omega)]
  have : ((TotalOrder.sig 23 (0x42800000 / 2 ^ 23) (0x42800000 % 2 ^ 23) : ℝ) * TotalOrder.ulp 8 23 : ℝ) = 64 := by
    unfold TotalOrder.sig TotalOrder.ulp
    norm_num [zpow_neg]
  rw [this]
  rfl

/-- A truth value, widened and converted, is one or zero. -/
theorem sitofp_bool (p : Prop) [Decidable p] :
    FloatOps.sitofp (F := Ideal) FTy.f32 (BitVec.setWidth 32 (BitVec.ofBool (decide p))) = ((if p then 1 else 0 : ℕ) : EReal) := by
  by_cases h : p
  · simp only [h, decide_true, if_true]
    show (((1 : ℤ) : ℝ) : EReal) = _
    simp
  · simp only [h, decide_false, if_false]
    show (((0 : ℤ) : ℝ) : EReal) = _
    simp

/-- The bit that trip `k` tries. -/
theorem bit_eq : ∀ k < 26, Scalar.shli (1#32) (Scalar.subi (30#32) (Scf.iv 0#32 1#32 k)) = BitVec.ofNat 32 (2 ^ (30 - k)) := by
  decide

theorem trips_eq : k0_t1_loop.trips = 26 := by decide

/-- One trip of the loop, in each row, is one step of the search over the row's magnitudes. -/
theorem pay5_apply (k : Fin k0_t1_loop.trips) (acc : IVec S64x1 32) (v : Vec Ideal S64x16384 .f32) (r : Fin 64) :
    k0_pay5 (F := Ideal) k acc v (ix2 r 0) = step (fun j => v (ix2 r j)) k.val (acc (ix2 r 0)) := by
  unfold k0_pay5
  pointwise
  rw [bit_eq k.val (lt_of_lt_of_eq k.isLt trips_eq), ofBits_64]
  have hs : ∀ b : BitVec 32, (∑ x : Fin 16384, FloatOps.sitofp (F := Ideal) FTy.f32
      (BitVec.setWidth 32 (BitVec.ofBool (decide (Ideal.ofBits FTy.f32 b ≤ v (ix2 r x))))))
        = ((cnt (fun j => v (ix2 r j)) b : ℕ) : EReal) := fun b => by
    rw [Finset.sum_congr rfl fun x _ => sitofp_bool _, ← Nat.cast_sum, Finset.sum_boole]
    rfl
  rw [hs]
  simp only [Nat.cast_le]
  rfl

/-- After `k` trips, in each row, the pattern is the search's over the row's magnitudes. -/
theorem pat_apply (v : Vec Ideal S64x16384 .f32) (r : Fin 64) (k : ℕ) (hk : k ≤ 26) :
    pat v k (ix2 r 0) = search (fun j => v (ix2 r j)) k := by
  induction k with
  | zero => rfl
  | succ k ih =>
    unfold pat search
    rw [dif_pos (lt_of_lt_of_eq (by omega) trips_eq.symm), pay5_apply, ih (by omega)]

/-- The last payload, at an index: the features that reach the pattern's value, decoded. -/
theorem pay6_apply (t : IVec S64x1 32) (v f : Vec Ideal S64x16384 .f32) (x1 : Vec Ideal S768x16384 .f32) (x2 : Vec Ideal S1x768 .f32) (r : Fin 64) (l : Fin 768) :
    k0_pay6 (F := Ideal) t v f x1 x2 (ix2 r l)
      = (∑ j : Fin 16384, (if val (t (ix2 r 0)) ≤ v (ix2 r j) then f (ix2 r j) else 0) * x1 (ix2 l j)) + x2 (ix2 0 l) := by
  unfold k0_pay6
  pointwise
  rfl

/-- The magnitude of a feature. -/
abbrev bmag (x0 : Vec Ideal S64x768 .f32) (x1 : Vec Ideal S768x16384 .f32) (x2 : Vec Ideal S1x768 .f32) (r : Fin 64) (j : Fin 16384) : EReal :=
  FloatOps.absf (F := Ideal) (φ := .f32) (bfeat x0 x1 x2 r j)

/-- The block a point leaves, at an index. -/
theorem block_apply (x0 : Vec Ideal S64x768 .f32) (x1 : Vec Ideal S768x16384 .f32) (x2 : Vec Ideal S1x768 .f32) (r : Fin 64) (l : Fin 768) :
    k0_pay6 (F := Ideal) (pat (k0_pay3 x0 x2 x1) k0_t1_loop.trips) (k0_pay3 x0 x2 x1) (k0_pay2 x0 x2 x1) x1 x2 (ix2 r l)
      = (∑ j : Fin 16384, (if val (search (bmag x0 x1 x2 r) 26) ≤ bmag x0 x1 x2 r j then bfeat x0 x1 x2 r j else 0) * x1 (ix2 l j)) + x2 (ix2 0 l) := by
  have h2 : ∀ j, k0_pay2 (F := Ideal) x0 x2 x1 (ix2 r j) = bfeat x0 x1 x2 r j := fun j => by
    unfold k0_pay2
    rw [shapeCast_self, pay1_apply]
  have h3 : ∀ j, k0_pay3 (F := Ideal) x0 x2 x1 (ix2 r j) = bmag x0 x1 x2 r j := fun j => by
    unfold k0_pay3
    rw [shapeCast_self]
    show FloatOps.absf (F := Ideal) (φ := .f32) (k0_pay1 (F := Ideal) x0 x2 x1 (ix2 r j)) = _
    rw [pay1_apply]
  rw [pay6_apply, trips_eq, pat_apply _ _ _ le_rfl]
  simp only [h2, h3]

end Cert.Proof.Block

end
-- ==== Proof.Spec.lean ====
/- One row of the autoencoder over the extended reals: its features, their magnitudes, and the row decoded from the
   features that reach the value of the searched pattern. -/
module

public import proofs.«01_k».proof.Proof.Search
public import Idealize.ShloMosaic.Lib.Pointwise

@[expose] public section

noncomputable section

namespace Cert.Spec

open Idealize.ShloMosaic Cert.Search

/-- Feature `j` of a row `x`, with the bias `b` and the weights `w`. -/
def feat (x b : Fin 768 → EReal) (w : Fin 768 → Fin 16384 → EReal) (j : Fin 16384) : EReal :=
  ∑ k : Fin 768, (x k - b k) * w k j

/-- The magnitude of feature `j`. -/
def mag (x b : Fin 768 → EReal) (w : Fin 768 → Fin 16384 → EReal) (j : Fin 16384) : EReal :=
  FloatOps.absf (F := Ideal) (φ := .f32) (feat x b w j)

/-- A row of sparse features `e`, decoded. -/
def decode (e : Fin 16384 → EReal) (b : Fin 768 → EReal) (w : Fin 768 → Fin 16384 → EReal) (l : Fin 768) : EReal :=
  (∑ j : Fin 16384, e j * w l j) + b l

/-- The features whose magnitude reaches the value of the searched pattern, the others zero. -/
def searched (x b : Fin 768 → EReal) (w : Fin 768 → Fin 16384 → EReal) (j : Fin 16384) : EReal :=
  if val (search (mag x b w) 26) ≤ mag x b w j then feat x b w j else 0

end Cert.Spec

end
-- ==== Proof.Array.lean ====
/- The kernel's result array over the extended reals, and its run: every row of the result is the decoded row of
   the features that reach the value of the row's searched pattern. -/
module

public import proofs.«01_k».proof.Proof.BlockIdeal
public import proofs.«01_k».proof.Proof.Spec
public import Idealize.ShloMosaic.Lib.StableHlo.Run

@[expose] public section

noncomputable section

namespace Cert.Proof.Array

open Cert.KernelIdeal Cert.KernelIdeal.Gen Idealize.ShloMosaic Idealize.ShloMosaic.TcCoe Idealize.SL.Sem Cert.Search

/-- A decoded row of a result, as a function of the three argument arrays. -/
def row (x : Vec Ideal S2048x768 .f32) (w : Vec Ideal S768x16384 .f32) (b : Vec Ideal S768 .f32) (r : Fin 2048) (l : Fin 768) : EReal :=
  Spec.decode (Spec.searched (fun k => x (ix2 r k)) (fun k => b (ix1 k)) (fun k j => w (ix2 k j))) (fun k => b (ix1 k)) (fun k j => w (ix2 k j)) l

variable (m : (ℓ : Loc nD τ sig) → Buf (Elt Ideal) ℓ) (ρ : Dev nD → PrngReg)

/-- What the kernel's result array is shown to hold. -/
def result (c : Dev nD) : Buf (Elt Ideal) ((c : Thread nD τ).loc main_v0) := fun i : S2048x768.Idx =>
  row (m ((c : Thread nD τ).loc main_arg0)) (m ((c : Thread nD τ).loc main_arg1)) (m ((c : Thread nD τ).loc main_arg2)) (i 0) (i 1)

/-- The block indices of the four windows. -/
theorem index_eq : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0 := by
  decide +kernel

/-- A point's rows are among the array's. -/
theorem row_lt (t : Fin cfg0.N) (r : Fin 64) : t.val * 64 + r.val < 2048 := by
  have : cfg0.N = 32 := N_0
  have := t.isLt
  omega

/-- Row `r` of point `t`'s block is row `64 t + r` of the first argument. -/
theorem iblk0_apply (c : Dev nD) (t : Fin cfg0.N) (r : Fin 64) (k : Fin 768) :
    (iblk m c 0 t : Vec Ideal S64x768 .f32) (ix2 r k) = m ((c : Thread nD τ).loc main_arg0) (ix2 ⟨t.val * 64 + r.val, row_lt t r⟩ k : S2048x768.Idx) := by
  unfold iblk
  rw [View.read_apply]
  show V m c main_arg0 _ = _
  rw [V_main_arg0]
  congr 1
  funext a
  apply Fin.ext
  match a with
  | ⟨0, _⟩ => show win0_0.index t 0 * 64 + 1 * r.val = t.val * 64 + r.val; rw [(index_eq t).1.1]; omega
  | ⟨1, _⟩ => show win0_0.index t 1 * 768 + 1 * k.val = k.val; rw [(index_eq t).1.2]; omega

/-- The second window's block is the whole second argument. -/
theorem iblk1_apply (c : Dev nD) (t : Fin cfg0.N) (k : Fin 768) (j : Fin 16384) :
    (iblk m c 1 t : Vec Ideal S768x16384 .f32) (ix2 k j) = m ((c : Thread nD τ).loc main_arg1) (ix2 k j : S768x16384.Idx) := by
  unfold iblk
  rw [View.read_apply]
  show V m c main_arg1 _ = _
  rw [V_main_arg1]
  congr 1
  funext a
  apply Fin.ext
  match a with
  | ⟨0, _⟩ => show win0_1.index t 0 * 768 + 1 * k.val = k.val; rw [(index_eq t).2.1.1]; omega
  | ⟨1, _⟩ => show win0_1.index t 1 * 16384 + 1 * j.val = j.val; rw [(index_eq t).2.1.2]; omega

/-- The bias row the launch finds is the third argument, reshaped. -/
theorem V_bias (c : Dev nD) :
    V m c main_call0_v0 = (shapeCast S1x768 (m ((c : Thread nD τ).loc main_arg2) : Vec Ideal S768 .f32) shapeCasts_S768_S1x768 : Vec Ideal S1x768 .f32) := by
  unfold V
  simp only [hostOps0, StableHlo.TRef.reshape, StableHlo.TRef.toBuf, StableHlo.TRef.ofBuf, cast_eq]
  after_results_simp <;> rfl

/-- The third window's block is the third argument, as one row. -/
theorem iblk2_apply (c : Dev nD) (t : Fin cfg0.N) (k : Fin 768) :
    (iblk m c 2 t : Vec Ideal S1x768 .f32) (ix2 0 k) = m ((c : Thread nD τ).loc main_arg2) (ix1 k : S768.Idx) := by
  have h : (iblk m c 2 t : Vec Ideal S1x768 .f32) (ix2 0 k) = V m c main_call0_v0 (ix2 0 k : S1x768.Idx) := by
    unfold iblk
    rw [View.read_apply]
    show V m c main_call0_v0 _ = _
    congr 1
    funext a
    apply Fin.ext
    match a with
    | ⟨0, _⟩ => show win0_2.index t 0 * 1 + 1 * 0 = 0; rw [(index_eq t).2.2.1.1]
    | ⟨1, _⟩ => show win0_2.index t 1 * 768 + 1 * k.val = k.val; rw [(index_eq t).2.2.1.2]; omega
  rw [h, V_bias]
  pointwise

/-- The features of a block's row are the features of the array's row. -/
theorem bfeat_eq (c : Dev nD) (t : Fin cfg0.N) (r : Fin 64) :
    Block.bfeat (iblk m c 0 t) (iblk m c 1 t) (iblk m c 2 t) r
      = Spec.feat (fun k => m ((c : Thread nD τ).loc main_arg0) (ix2 ⟨t.val * 64 + r.val, row_lt t r⟩ k : S2048x768.Idx))
          (fun k => m ((c : Thread nD τ).loc main_arg2) (ix1 k : S768.Idx)) (fun k j => m ((c : Thread nD τ).loc main_arg1) (ix2 k j : S768x16384.Idx)) := by
  funext j
  unfold Block.bfeat Spec.feat
  refine Finset.sum_congr rfl fun k _ => ?_
  rw [iblk0_apply, iblk1_apply, iblk2_apply]

/-- A point's block, at an index, is the result at the index's place in the array. -/
theorem point_apply (c : Dev nD) (t : Fin cfg0.N) (r : Fin 64) (l : Fin 768) :
    k0_pay6 (F := Ideal) (Block.pat (k0_pay3 (iblk m c 0 t) (iblk m c 2 t) (iblk m c 1 t)) k0_t1_loop.trips) (k0_pay3 (iblk m c 0 t) (iblk m c 2 t) (iblk m c 1 t)) (k0_pay2 (iblk m c 0 t) (iblk m c 2 t) (iblk m c 1 t)) (iblk m c 1 t) (iblk m c 2 t) (ix2 r l)
      = result m c (ix2 ⟨t.val * 64 + r.val, row_lt t r⟩ l : S2048x768.Idx) := by
  rw [Block.block_apply]
  have hm : Block.bmag (iblk m c 0 t) (iblk m c 1 t) (iblk m c 2 t) r
      = Spec.mag (fun k => m ((c : Thread nD τ).loc main_arg0) (ix2 ⟨t.val * 64 + r.val, row_lt t r⟩ k : S2048x768.Idx))
          (fun k => m ((c : Thread nD τ).loc main_arg2) (ix1 k : S768.Idx)) (fun k j => m ((c : Thread nD τ).loc main_arg1) (ix2 k j : S768x16384.Idx)) := by
    funext j
    unfold Block.bmag Spec.mag
    rw [bfeat_eq]
  rw [hm, iblk2_apply]
  simp only [iblk1_apply, bfeat_eq]
  unfold result row Spec.decode Spec.searched
  rfl

/-- The place of an index of a point's block in the result array. -/
theorem emb_eq (t : Fin cfg0.N) (y : S64x768.Idx) :
    (((cfg0.win 3).blk t).view.emb y : S2048x768.Idx) = ix2 ⟨t.val * 64 + (y 0).val, row_lt t (y 0)⟩ (y 1) := by
  funext a
  apply Fin.ext
  match a with
  | ⟨0, _⟩ => show win0_3.index t 0 * 64 + 1 * (y 0).val = t.val * 64 + (y 0).val; rw [(index_eq t).2.2.2.1]; omega
  | ⟨1, _⟩ => show win0_3.index t 1 * 768 + 1 * (y 1).val = (y 1).val; rw [(index_eq t).2.2.2.2]; omega

/-- What a point writes back is its block of the result. -/
theorem flushed_eq (c : Dev nD) (t : Fin cfg0.N) :
    (dats m 0 c).flushed 3 t = ((cfg0.win 3).blk t).view.read (Elt Ideal) (result m c) := by
  rw [Value.flushed3_A, Block.out_A]
  funext y
  rw [View.read_apply]
  show _ = result m c (((cfg0.win 3).blk t).view.emb y)
  refine Eq.trans ?_ (congrArg (result m c) (emb_eq t y)).symm
  refine Eq.trans ?_ (point_apply m c t (y 0) (y 1))
  exact congrArg (k0_pay6 (F := Ideal) _ _ _ _ _) (eq_ix2 (y : S64x768.Idx))

/-- Every index of the result array is in a point's block. -/
theorem cover (i : S2048x768.Idx) : ∃ t : Fin cfg0.N, (cfg0.win 3).flush t = true ∧ i ∈ ((cfg0.win 3).blk t).view.set := by
  have hN : cfg0.N = 32 := N_0
  have h0 : (i 0 : Nat) < 2048 := (i 0).isLt
  have h1 : (i 1 : Nat) < 768 := (i 1).isLt
  have ht : (i 0 : Nat) / 64 < cfg0.N := by omega
  refine ⟨⟨(i 0 : Nat) / 64, ht⟩, flush0_3 _, ?_⟩
  generalize hT : (⟨(i 0 : Nat) / 64, ht⟩ : Fin cfg0.N) = t
  have htv : t.val = (i 0 : Nat) / 64 := by rw [← hT]
  show i ∈ ((View.whole main_v0).slice (win0_3.rect t)).set
  rw [View.set_slice_whole, Rect.mem_set_unit]
  intro a
  match a with
  | ⟨0, _⟩ => show win0_3.index t 0 * 64 ≤ (i 0 : Nat) ∧ (i 0 : Nat) < win0_3.index t 0 * 64 + 64
              rw [(index_eq t).2.2.2.1]; omega
  | ⟨1, _⟩ => show win0_3.index t 1 * 768 ≤ (i 1 : Nat) ∧ (i 1 : Nat) < win0_3.index t 1 * 768 + 768
              rw [(index_eq t).2.2.2.2]; omega

/-- The result array ends at the result. -/
theorem final (c : Dev nD) : (dats m 0 c).arrAt 3 cfg0.N = result m c :=
  (dats m 0 c).arrAt_eq_of_cover 3 (result m c) (fun t _ => flushed_eq m c t) fun i => cover i

/-- The kernel's run over the extended reals: the result array ends at the result, the arguments are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Proof.Array

end
-- ==== Proof.TopK.lean ====
/- The host's top-k over the rows of a matrix of extended reals, read at an index, and what it says of the searched
   pattern: where the last kept and the first dropped magnitude are a little apart, the pattern selects the positions
   that the top-k lists. -/
module

public import proofs.«01_k».proof.Proof.Search
public import Idealize.ShloMosaic.Lib.SortFacts
public import Idealize.ShloMosaic.Lib.Pointwise

@[expose] public section

noncomputable section

namespace Cert.TopK

open Idealize.ShloMosaic Cert.Search

variable {R n K : ℕ}

/-- The positions of a row in the order a top-k lists them: greatest first, equals by position. -/
def order (a : Fin n → EReal) : Fin n → Fin n :=
  sortedFrom fun k k' => FloatOps.cmpfTotal (F := Ideal) (φ := .f32) .gt (a k) (a k') == 1#1

/-- A position of a list of `K` among the row's. -/
abbrev up (h : K ≤ n) (k : Fin K) : Fin n := ⟨k.val, lt_of_lt_of_le k.isLt h⟩

/-- Replacing the column of an index. -/
theorem along_ix2 (r : Fin R) (j k : Fin n) : Shape.Idx.along (ix2 r j : (⟨2, ![R, n]⟩ : Shape).Idx) 1 k = ix2 r k := by
  funext a
  match a with
  | ⟨0, _⟩ => rfl
  | ⟨1, _⟩ => rfl

/-- The place a leading slice reads. -/
theorem slice_ix2 {α : Type} (y : (⟨2, ![R, n]⟩ : Shape).Idx → α) (h : (⟨2, ![R, n]⟩ : Shape).Slices (fun _ => 0) ⟨2, ![R, K]⟩) (hK : K ≤ n)
    (r : Fin R) (k : Fin K) : extractStridedSlice ⟨2, ![R, K]⟩ (fun _ => 0) y h (ix2 r k) = y (ix2 r (up hK k)) := by
  unfold extractStridedSlice
  congr 1
  funext a
  apply Fin.ext
  match a with
  | ⟨0, _⟩ => exact Nat.zero_add _
  | ⟨1, _⟩ => exact Nat.zero_add _

/-- A row's sort by the first of two arrays, carrying the second, reads both at the row's order. -/
theorem sort2_ix2 (x : (⟨2, ![R, n]⟩ : Shape).Idx → EReal) (y : IVec ⟨2, ![R, n]⟩ 32) (r : Fin R) (j : Fin n) :
    (Host.sort2 ⟨2, ![R, n]⟩ 1 (fun l r => FloatOps.cmpfTotal (F := Ideal) (φ := .f32) .gt l.1 r.1) x y).1 (ix2 r j) = x (ix2 r (order (fun j => x (ix2 r j)) j))
    ∧ (Host.sort2 ⟨2, ![R, n]⟩ 1 (fun l r => FloatOps.cmpfTotal (F := Ideal) (φ := .f32) .gt l.1 r.1) x y).2 (ix2 r j) = y (ix2 r (order (fun j => x (ix2 r j)) j)) := by
  have e : sortedFrom (fun k k' => FloatOps.cmpfTotal (F := Ideal) (φ := .f32) .gt (x (Shape.Idx.along (ix2 r j : (⟨2, ![R, n]⟩ : Shape).Idx) 1 k))
      (x (Shape.Idx.along (ix2 r j : (⟨2, ![R, n]⟩ : Shape).Idx) 1 k')) == 1#1) j = order (fun j => x (ix2 r j)) j := by
    unfold order
    refine congrArg (fun f => sortedFrom f j) (funext fun k => funext fun k' => ?_)
    exact congrArg₂ (fun p q => FloatOps.cmpfTotal (F := Ideal) (φ := .f32) .gt (x p) (x q) == 1#1) (along_ix2 r j k) (along_ix2 r j k')
  unfold Host.sort2
  rw [dif_pos (show 1 < 2 by decide)]
  constructor
  · refine Eq.trans ?_ (congrArg x (along_ix2 r j _))
    exact congrArg (fun q => x (Shape.Idx.along (ix2 r j : (⟨2, ![R, n]⟩ : Shape).Idx) 1 q)) e
  · refine Eq.trans ?_ (congrArg y (along_ix2 r j _))
    exact congrArg (fun q => y (Shape.Idx.along (ix2 r j : (⟨2, ![R, n]⟩ : Shape).Idx) 1 q)) e

/-- The values a top-k lists. -/
theorem topK_fst (x : (⟨2, ![R, n]⟩ : Shape).Idx → EReal) (h : (⟨2, ![R, n]⟩ : Shape).Slices (fun _ => 0) ⟨2, ![R, K]⟩) (hK : K ≤ n)
    (r : Fin R) (k : Fin K) :
    (Host.topK ⟨2, ![R, K]⟩ 1 (FloatOps.cmpfTotal (F := Ideal) (φ := .f32) .gt) x h).1 (ix2 r k) = x (ix2 r (order (fun j => x (ix2 r j)) (up hK k))) := by
  unfold Host.topK
  dsimp only
  rw [slice_ix2 _ _ hK, (sort2_ix2 x _ r _).1]

/-- The positions a top-k lists. -/
theorem topK_snd (x : (⟨2, ![R, n]⟩ : Shape).Idx → EReal) (h : (⟨2, ![R, n]⟩ : Shape).Slices (fun _ => 0) ⟨2, ![R, K]⟩) (hK : K ≤ n)
    (r : Fin R) (k : Fin K) :
    (Host.topK ⟨2, ![R, K]⟩ 1 (FloatOps.cmpfTotal (F := Ideal) (φ := .f32) .gt) x h).2 (ix2 r k) = BitVec.ofNat 32 (order (fun j => x (ix2 r j)) (up hK k)).val := by
  unfold Host.topK
  dsimp only
  rw [slice_ix2 _ _ hK, (sort2_ix2 x _ r _).2, dif_pos (show 1 < 2 by decide)]
  rfl

/-- The order lists every position once. -/
theorem order_injective (a : Fin n → EReal) : Function.Injective (order a) := sortedFrom_injective _

theorem order_surjective (a : Fin n → EReal) : Function.Surjective (order a) := sortedFrom_surjective _

/-- The order lists greater values first. -/
theorem order_anti (a : Fin n → EReal) {i j : Fin n} (hij : i ≤ j) : a (order a j) ≤ a (order a i) := by
  rcases eq_or_lt_of_le hij with rfl | hlt
  · exact le_rfl
  have hb : ∀ p q : Fin n, (FloatOps.cmpfTotal (F := Ideal) (φ := .f32) .gt (a p) (a q) == 1#1) = decide (a q < a p) := fun p q => by
    show (BitVec.ofBool (decide (a q < a p)) == 1#1) = _
    by_cases hd : a q < a p <;> simp [hd]
  have h := sortedFrom_noInversion (fun k k' => FloatOps.cmpfTotal (F := Ideal) (φ := .f32) .gt (a k) (a k') == 1#1)
    (fun k k' => FloatOps.cmpfTotal (F := Ideal) (φ := .f32) .gt (a k) (a k') == 1#1)
    (fun p q => by rw [hb, hb]; simpa using fun h : a q < a p => h.le) (fun p q h => h)
    (fun p q s => by rw [hb, hb, hb]; simpa using fun (h1 : a p ≤ a q) (h2 : a q ≤ a s) => h1.trans h2) i j hlt
  rw [hb] at h
  exact not_lt.mp (of_decide_eq_false h)

/-- THE SEARCHED PATTERN SELECTS WHAT THE TOP-K LISTS: in a row of nonnegative magnitudes whose sixty-fifth greatest is
    zero, or whose sixty-fourth is a normal float's size and exceeds the sixty-fifth by `1 + 2⁻¹⁸`, a nonzero magnitude reaches
    the pattern's value exactly if its position is among the first sixty-four listed. -/
theorem select_iff_listed (a : Fin n → EReal) (ha : ∀ j, 0 ≤ a j) (hn : 65 ≤ n)
    (hsep : a (order a (up hn 64)) = 0 ∨ (val 0x00800000#32 ≤ a (order a (up hn 63)) ∧ a (order a (up hn 63)) ≤ val 0x7F7FFFFF#32
      ∧ a (order a (up hn 64)) * val 0x3F800020#32 ≤ a (order a (up hn 63)))) (j : Fin n) :
    a j = 0 ∨ (val (search a 26) ≤ a j ↔ ∃ k : Fin 64, order a (up (by omega) k) = j) := by
  have hinj : Function.Injective fun k : Fin 64 => order a (up (by omega : 64 ≤ n) k) := fun k k' h =>
    Fin.ext (by simpa using order_injective a h)
  have hmem : ∀ i, i ∈ Finset.univ.map ⟨_, hinj⟩ ↔ ∃ k : Fin 64, order a (up (by omega : 64 ≤ n) k) = i := fun i => by
    simp
  have h := select_iff a (Finset.univ.map ⟨_, hinj⟩) (by simp) ha (kept := a (order a (up hn 63))) (dropped := a (order a (up hn 64)))
    (fun i hi => by
      obtain ⟨k, rfl⟩ := (hmem i).mp hi
      exact order_anti a (Fin.le_def.mpr (Nat.le_of_lt_succ k.isLt)))
    ⟨_, (hmem _).mpr ⟨63, rfl⟩, rfl⟩
    (fun i hi => by
      obtain ⟨p, rfl⟩ := order_surjective a i
      refine order_anti a (Fin.le_def.mpr ?_)
      by_contra hlt
      exact hi ((hmem _).mpr ⟨⟨p.val, by simpa using hlt⟩, rfl⟩))
    (ha _) (order_anti a (Fin.le_def.mpr (by show 63 ≤ 64; omega))) hsep j
  rw [← hmem]
  exact h

end Cert.TopK

end
-- ==== Proof.Mask.lean ====
/- The mask over the extended reals, read at an index: in the index's row, the sixty-fifth greatest magnitude is
   zero, or the sixty-fourth is a normal float's size and exceeds it by `1 + 2⁻¹⁸`. -/
module

public import proofs.«01_k».proof.On_separated
public import proofs.«01_k».proof.Proof.TopK
public import proofs.«01_k».proof.Proof.Spec

@[expose] public section

noncomputable section

namespace Cert.On_separated

open Idealize.ShloMosaic Cert.Search Cert.TopK

/-- The mask's shape relations hold. -/
theorem facts : Facts where
  bcast_S768_S1x768_1 := by decide
  bcast_S1x768_S2048x768_0_1 := by decide
  sliceFits_S2048x16384_S2048x65 := by decide
  slices_S2048x65_S2048x1_0_63 := by decide
  slices_S2048x65_S2048x1_0_64 := by decide
  bcast_S_S2048x1 := by decide
  bcast_S2048x1_S2048x768_0_1 := by decide
  dot_S2048x768_S768x16384_S2048x16384_1_0_0_1_n_n_wf := by decide

variable [Facts]

/-- Row `r`'s magnitudes. -/
abbrev rowMag (x : FVec Ideal S2048x768 .f32) (w : FVec Ideal S768x16384 .f32) (b : FVec Ideal S768 .f32) (r : Fin 2048) : Fin 16384 → EReal :=
  Spec.mag (fun k => x (ix2 r k)) (fun k => b (ix1 k)) (fun k j => w (ix2 k j))

/-- The mask's matrix of magnitudes, at an index. -/
theorem mags_apply (x : FVec Ideal S2048x768 .f32) (w : FVec Ideal S768x16384 .f32) (b : FVec Ideal S768 .f32) (r : Fin 2048) (j : Fin 16384) :
    Host.absf (Host.dotGeneral dot_S2048x768_S768x16384_S2048x16384_1_0_0_1_n_n none (subf x (broadcastInDim S2048x768 ![0, 1] Facts.bcast_S1x768_S2048x768_0_1 (broadcastInDim S1x768 ![1] Facts.bcast_S768_S1x768_1 b))) w) (ix2 r j)
      = rowMag x w b r j := by
  unfold rowMag Spec.mag Spec.feat
  pointwise

/-- Where the mask is set, the row's sixty-fourth and sixty-fifth greatest magnitudes are apart. -/
theorem sep_of_fn (x : FVec Ideal S2048x768 .f32) (w : FVec Ideal S768x16384 .f32) (b : FVec Ideal S768 .f32) (r : Fin 2048) (l : Fin 768)
    (h : fn (F := Ideal) x w b (ix2 r l) = 1#1) :
    let a := rowMag x w b r
    a (order a (up (by decide : 65 ≤ 16384) 64)) = 0 ∨ (val 0x00800000#32 ≤ a (order a (up (by decide : 65 ≤ 16384) 63)) ∧ a (order a (up (by decide : 65 ≤ 16384) 63)) ≤ val 0x7F7FFFFF#32
      ∧ a (order a (up (by decide : 65 ≤ 16384) 64)) * val 0x3F800020#32 ≤ a (order a (up (by decide : 65 ≤ 16384) 63))) := by
  intro a
  unfold fn fn_part1 at h
  dsimp only at h
  generalize hX : Host.absf (F := Ideal) (φ := .f32) (s := S2048x16384) _ = X at h
  have hXa : ∀ j, X (ix2 r j) = a j := fun j => by rw [← hX]; exact mags_apply x w b r j
  pointwise at h
  have hf : (fun j => X (ix2 r j)) = a := funext hXa
  have ht : ∀ k : Fin 65, (Host.topK S2048x65 1 (FloatOps.cmpfTotal (F := Ideal) (φ := .f32) .gt) X Facts.sliceFits_S2048x16384_S2048x65).1 (ix2 r k)
      = a (order a (up (by decide : 65 ≤ 16384) k)) := fun k => by
    have h1 := topK_fst X Facts.sliceFits_S2048x16384_S2048x65 (by decide : 65 ≤ 16384) r k
    rw [hf] at h1
    exact h1.trans (hXa _)
  rw [ht, ht] at h
  have or1 : ∀ p q : BitVec 1, IntOp.ori p q = 1#1 → p = 1#1 ∨ q = 1#1 := by decide
  have and1 : ∀ p q : BitVec 1, IntOp.andi p q = 1#1 → p = 1#1 ∧ q = 1#1 := by decide
  have dec1 : ∀ (p : Prop) [Decidable p], BitVec.ofBool (decide p) = 1#1 → p := fun p _ hp => by
    by_contra hn
    simp [hn] at hp
  rcases or1 _ _ h with h | h
  · exact Or.inl (dec1 _ h)
  · obtain ⟨h12, h3⟩ := and1 _ _ h
    obtain ⟨h1, h2⟩ := and1 _ _ h12
    exact Or.inr ⟨dec1 _ h1, dec1 _ h2, dec1 _ h3⟩

end Cert.On_separated

end
-- ==== Proof.Encode.lean ====
/- The reference's sparse features over the extended reals: the features gathered at the positions a top-k lists,
   scattered into zeros at the same positions, are the features at the listed positions and zero elsewhere. -/
module

public import proofs.«01_k».proof.Proof.Gen.ReferenceIdeal.Run
public import Idealize.ShloMosaic.Lib.Routing.OpsPair
public import Idealize.ShloMosaic.Lib.Routing.OpsSet
public import Idealize.ShloMosaic.Lib.Pointwise

@[expose] public section

noncomputable section

namespace Cert.Proof.Encode

open Cert.ReferenceIdeal Cert.ReferenceIdeal.Gen Idealize.ShloMosaic

/-- The listed positions, a negative one counted from the row's end. -/
def wrapped (I : IVec S2048x64 32) : IVec S2048x64 32 :=
  select (cmpi .slt I (broadcastInDim S2048x64 ![] bcast_S_S2048x64 (constantI S_ 32 0#32))) (addi I (broadcastInDim S2048x64 ![] bcast_S_S2048x64 (constantI S_ 32 16384#32))) I

/-- The rows, each counted from zero. -/
def rows : IVec S2048x1 32 :=
  select (cmpi .slt (broadcastInDim S2048x1 ![0] bcast_S2048_S2048x1_0 (iotaInDim S2048 32 0)) (broadcastInDim S2048x1 ![] bcast_S_S2048x1 (constantI S_ 32 0#32))) (addi (broadcastInDim S2048x1 ![0] bcast_S2048_S2048x1_0 (iotaInDim S2048 32 0)) (broadcastInDim S2048x1 ![] bcast_S_S2048x1 (constantI S_ 32 2048#32))) (broadcastInDim S2048x1 ![0] bcast_S2048_S2048x1_0 (iotaInDim S2048 32 0))

/-- Where each listed feature is put: its row and its position. -/
def places (I : IVec S2048x64 32) : IVec S2048x64x2 32 :=
  concatenate S2048x64x2 2 [⟨S2048x64x1, (broadcastInDim S2048x64x1 ![0, 1] bcast_S2048x64_S2048x64x1_0_1 (broadcastInDim S2048x64 ![0, 1] bcast_S2048x1_S2048x64_0_1 rows))⟩, ⟨S2048x64x1, (broadcastInDim S2048x64x1 ![0, 1] bcast_S2048x64_S2048x64x1_0_1 (wrapped I))⟩] concatenates_S2048x64x1_S2048x64x1_S2048x64x2_d2

/-- Whether each listed position is one of the row's. -/
def bounded (I : IVec S2048x64 32) : IVec S2048x64 1 :=
  Host.reduce IntOp.andi (andi (cmpi .sge (shapeCast S2048x64x1 (wrapped I) shapeCasts_S2048x64_S2048x64x1) (broadcastInDim S2048x64x1 ![] bcast_S_S2048x64x1 (constantI S_ 32 0#32))) (cmpi .sle (shapeCast S2048x64x1 (wrapped I) shapeCasts_S2048x64_S2048x64x1) (broadcastInDim S2048x64x1 ![0, 1, 2] bcast_S1x1x1_S2048x64x1_0_1_2 (broadcastInDim S1x1x1 ![2] bcast_S1_S1x1x1_2 (constantI S1 32 16383#32))))) (constantI S_ 1 1#1) reducesTo_S2048x64x1_S2048x64_d2 h_S_

/-- The listed features. -/
def taken (Y : FVec Ideal S2048x16384 .f32) (I : IVec S2048x64 32) : FVec Ideal S2048x64 .f32 :=
  select (bounded I) (Host.gather gather_S2048x16384_S2048x64x1_S2048x64_n_1_0_0_1_2_11 Y (shapeCast S2048x64x1 (wrapped I) shapeCasts_S2048x64_S2048x64x1)) (broadcastInDim S2048x64 ![] bcast_S_S2048x64 (constant S_ .f32 0x7FC00000#32))

/-- The sparse features. -/
def encoded (Y : FVec Ideal S2048x16384 .f32) (I : IVec S2048x64 32) : FVec Ideal S2048x16384 .f32 :=
  Host.scatter scatter_S2048x16384_S2048x64x2_S2048x64_n_01_01_2 (fun _ b => b) (broadcastInDim S2048x16384 ![] bcast_S_S2048x16384 (constant S_ .f32 0x00000000#32)) (places I) (taken Y I)

/-- A small number's word is not negative. -/
theorem ofNat_lt (n : ℕ) (h : n < 16384) : (BitVec.ofNat 32 n).toNat < 2 ^ 31 := by
  rw [BitVec.toNat_ofNat]; omega

/-- A small number's word, read signed, is the number. -/
theorem toInt_ofNat (n : ℕ) (h : n < 16384) : (BitVec.ofNat 32 n).toInt = n := by
  rw [BitVec.toInt_eq_toNat_of_lt (by rw [BitVec.toNat_ofNat]; omega), BitVec.toNat_ofNat]; omega

/-- Row `r` is row `r`. -/
theorem rows_apply (r : Fin 2048) : rows (ix2 r 0) = BitVec.ofNat 32 r.val := by
  unfold rows
  show Scalar.select (IntOp.cmpi .slt (BitVec.ofNat 32 r.val) 0#32) _ (BitVec.ofNat 32 r.val) = _
  exact Routing.wrap_of_lt _ _ (ofNat_lt _ (by omega))

/-- A conjunction of truths is true. -/
theorem reduce_one {s t u : Shape} {axes : List (Fin s.rank)} (x : IVec s 1) (init : IVec u 1) (h : s.ReducesTo axes t) (hu : 0 < u.numel)
    (hx : ∀ i, x i = 1#1) (hi : ∀ i, init i = 1#1) (j : t.Idx) : Host.reduce IntOp.andi x init h hu j = 1#1 := by
  unfold Host.reduce
  rw [hi]
  generalize (List.finRange s.numel).filter _ = l
  induction l with
  | nil => rfl
  | cons n l ih => rw [List.foldl_cons, hx]; exact ih

variable (I : IVec S2048x64 32) (σ : Fin 2048 → Fin 64 → Fin 16384) (hI : ∀ r k, I (ix2 r k) = BitVec.ofNat 32 (σ r k).val)

include hI

/-- The listed positions are not negative. -/
theorem wrapped_apply (r : Fin 2048) (k : Fin 64) : wrapped I (ix2 r k) = BitVec.ofNat 32 (σ r k).val := by
  unfold wrapped
  show Scalar.select (IntOp.cmpi .slt (I (ix2 r k)) 0#32) _ (I (ix2 r k)) = _
  rw [hI]
  exact Routing.wrap_of_lt _ _ (ofNat_lt _ (σ r k).isLt)

/-- The column of listed positions holds them. -/
theorem column_apply (r : Fin 2048) (k : Fin 64) : shapeCast S2048x64x1 (wrapped I) shapeCasts_S2048x64_S2048x64x1 (ix3 r k 0) = BitVec.ofNat 32 (σ r k).val := by
  rw [← wrapped_apply I σ hI]
  pointwise

/-- Listed feature `k` of row `r` is put in row `r`. -/
theorem places_row (r : Fin 2048) (k : Fin 64) : places I (ix3 r k 0) = BitVec.ofNat 32 r.val := by
  rw [← rows_apply]
  unfold places
  pointwise

/-- Listed feature `k` of row `r` is put at its own position. -/
theorem places_col (r : Fin 2048) (k : Fin 64) : places I (ix3 r k 1) = BitVec.ofNat 32 (σ r k).val := by
  rw [← wrapped_apply I σ hI]
  unfold places
  pointwise

/-- Every listed position is one of the row's. -/
theorem bounded_apply (r : Fin 2048) (k : Fin 64) : bounded I (ix2 r k) = 1#1 := by
  unfold bounded
  refine reduce_one _ _ _ _ (fun i => ?_) (fun _ => rfl) _
  have hi : i = ix3 (i 0) (i 1) (0 : Fin 1) := by
    rw [eq_ix3 i]
    congr 1
    exact Subsingleton.elim (α := Fin 1) _ _
  have hw : shapeCast S2048x64x1 (wrapped I) shapeCasts_S2048x64_S2048x64x1 i = BitVec.ofNat 32 (σ (i 0) (i 1)).val := by
    rw [hi]
    exact column_apply I σ hI (i 0) (i 1)
  show IntOp.andi (IntOp.cmpi .sge (shapeCast S2048x64x1 (wrapped I) shapeCasts_S2048x64_S2048x64x1 i) 0#32)
    (IntOp.cmpi .sle (shapeCast S2048x64x1 (wrapped I) shapeCasts_S2048x64_S2048x64x1 i) 16383#32) = 1#1
  rw [hw]
  generalize σ (i 0) (i 1) = c
  have h := toInt_ofNat c.val c.isLt
  have hc := c.isLt
  have h1 : IntOp.cmpi .sge (BitVec.ofNat 32 c.val) 0#32 = 1#1 := by
    unfold IntOp.cmpi
    simp only [BitVec.sle, h]
    simp
  have h2 : IntOp.cmpi .sle (BitVec.ofNat 32 c.val) 16383#32 = 1#1 := by
    unfold IntOp.cmpi
    have h3 : (16383#32).toInt = 16383 := by decide
    simp only [BitVec.sle, h, h3]
    rw [decide_eq_true (by omega)]
    rfl
  rw [h1, h2]
  rfl

/-- The gather reads, for listed feature `k` of row `r`, the row's feature at the listed position. -/
theorem gather_apply (Y : FVec Ideal S2048x16384 .f32) (r : Fin 2048) (k : Fin 64) :
    Host.gather gather_S2048x16384_S2048x64x1_S2048x64_n_1_0_0_1_2_11 Y (shapeCast S2048x64x1 (wrapped I) shapeCasts_S2048x64_S2048x64x1) (ix2 r k) = Y (ix2 r (σ r k)) := by
  have hc := column_apply I σ hI r k
  revert hc
  generalize shapeCast S2048x64x1 (wrapped I) shapeCasts_S2048x64_S2048x64x1 = idx
  intro hc
  unfold Host.gather
  refine congrArg Y (funext fun a => Fin.ext ?_)
  fin_cases a
  · show GatherDims.start _ _ idx 0 + GatherDims.batchCoord _ _ 0 + GatherDims.offCoord _ _ 0 = r.val
    rw [GatherDims.start_batching _ _ _ _ (by decide), GatherDims.offCoord_eq_zero _ _ _ (by decide), Nat.zero_add, Nat.add_zero]
    rfl
  · show GatherDims.start _ _ idx 1 + GatherDims.batchCoord _ _ 1 + GatherDims.offCoord _ _ 1 = (σ r k).val
    rw [GatherDims.batchCoord_eq_zero _ _ _ (by decide), GatherDims.offCoord_eq_zero _ _ _ (by decide), Nat.add_zero]
    unfold GatherDims.start
    rw [dif_pos (by decide)]
    have hs : ∀ q, GatherDims.siIdx gather_S2048x16384_S2048x64x1_S2048x64_n_1_0_0_1_2_11 (ix2 r k) q = ix3 r k 0 := by
      intro q
      funext a
      fin_cases a
      · rfl
      · rfl
      · exact Subsingleton.elim (α := Fin 1) _ _
    rw [hs, hc, toInt_ofNat _ (Fin.isLt _)]
    show min (σ r k).val 16383 = (σ r k).val
    have := (σ r k).isLt
    omega

/-- Listed feature `k` of row `r` is the row's feature at the listed position. -/
theorem taken_apply (Y : FVec Ideal S2048x16384 .f32) (r : Fin 2048) (k : Fin 64) : taken Y I (ix2 r k) = Y (ix2 r (σ r k)) := by
  unfold taken
  show Scalar.select (bounded I (ix2 r k)) (Host.gather _ Y _ (ix2 r k)) _ = _
  rw [bounded_apply I σ hI, gather_apply I σ hI]
  rfl

/-- The sparse features at a listed position are the feature there. -/
theorem encoded_hit (Y : FVec Ideal S2048x16384 .f32) (r : Fin 2048) (k : Fin 64) : encoded Y I (ix2 r (σ r k)) = Y (ix2 r (σ r k)) := by
  unfold encoded
  refine Routing.scatter_set_hit _ _ _ _ _ _ (fun q hq => ?_) (ix2 r k) ?_
  · rw [eq_ix2 q] at hq ⊢
    obtain ⟨h0, h1⟩ := (Routing.scatter_lands2 _ rfl rfl rfl _ _ _ _ _).1 hq
    have h0' : (q 0 : Fin 2048) = r := Fin.ext (by
      have := (congrArg BitVec.toInt (places_row I σ hI (q 0) (q 1))).symm.trans h0
      rw [toInt_ofNat _ (lt_trans (Fin.isLt (q 0 : Fin 2048)) (by norm_num))] at this
      exact_mod_cast this)
    have h1' : σ (q 0) (q 1) = σ r k := Fin.ext (by
      have := (congrArg BitVec.toInt (places_col I σ hI (q 0) (q 1))).symm.trans h1
      rw [toInt_ofNat _ (Fin.isLt _)] at this
      exact_mod_cast this)
    show taken Y I (ix2 (q 0 : Fin 2048) (q 1 : Fin 64)) = _
    refine (taken_apply I σ hI Y (q 0) (q 1)).trans ?_
    rw [h1', h0']
  · refine (Routing.scatter_lands2 _ rfl rfl rfl _ _ _ _ _).2 ⟨?_, ?_⟩
    · exact (congrArg BitVec.toInt (places_row I σ hI r k)).trans (toInt_ofNat _ (by omega))
    · exact (congrArg BitVec.toInt (places_col I σ hI r k)).trans (toInt_ofNat _ (Fin.isLt _))

/-- The sparse features at a position not listed are zero. -/
theorem encoded_miss (Y : FVec Ideal S2048x16384 .f32) (r : Fin 2048) (j : Fin 16384) (hj : ¬ ∃ k, σ r k = j) : encoded Y I (ix2 r j) = (0 : EReal) := by
  unfold encoded
  rw [Routing.scatter_set_miss]
  · show Ideal.ieee 8 23 0x00000000#32 = (0 : EReal)
    simp [Ideal.ieee]
  · intro q hq
    rw [eq_ix2 q] at hq
    obtain ⟨h0, h1⟩ := (Routing.scatter_lands2 _ rfl rfl rfl _ _ _ _ _).1 hq
    have h0' : (q 0 : Fin 2048) = r := Fin.ext (by
      have := (congrArg BitVec.toInt (places_row I σ hI (q 0) (q 1))).symm.trans h0
      rw [toInt_ofNat _ (lt_trans (Fin.isLt (q 0 : Fin 2048)) (by norm_num))] at this
      exact_mod_cast this)
    have h1' : σ (q 0) (q 1) = j := Fin.ext (by
      have := (congrArg BitVec.toInt (places_col I σ hI (q 0) (q 1))).symm.trans h1
      rw [toInt_ofNat _ (Fin.isLt _)] at this
      exact_mod_cast this)
    exact hj ⟨q 1, h0' ▸ h1'⟩

open Classical in
/-- The sparse features are the features at the listed positions and zero elsewhere. -/
theorem encoded_apply (Y : FVec Ideal S2048x16384 .f32) (r : Fin 2048) (j : Fin 16384) :
    encoded Y I (ix2 r j) = if ∃ k, σ r k = j then Y (ix2 r j) else (0 : EReal) := by
  split
  · next h =>
    obtain ⟨k, rfl⟩ := h
    exact encoded_hit I σ hI Y r k
  · next h => exact encoded_miss I σ hI Y r j h

end Cert.Proof.Encode

end
-- ==== Proof.Reference.lean ====
/- The reference's result over the extended reals, and its agreement with the kernel's where the mask is set. -/
module

public import proofs.«01_k».proof.Proof.Encode
public import proofs.«01_k».proof.Proof.Mask

@[expose] public section

noncomputable section

namespace Cert.Proof.Reference

open Cert.ReferenceIdeal Cert.ReferenceIdeal.Gen Cert.ReferenceIdeal.Value Idealize.ShloMosaic Idealize.ShloMosaic.TcCoe Idealize.SL.Sem Cert.Search Cert.TopK Cert.Proof.Encode

/-- The features of every row. -/
def feats (x : FVec Ideal S2048x768 .f32) (w : FVec Ideal S768x16384 .f32) (b : FVec Ideal S768 .f32) : FVec Ideal S2048x16384 .f32 :=
  Host.dotGeneral dot_S2048x768_S768x16384_S2048x16384_1_0_0_1_n_n none (subf x (broadcastInDim S2048x768 ![0, 1] bcast_S1x768_S2048x768_0_1 (broadcastInDim S1x768 ![1] bcast_S768_S1x768_1 b))) w

/-- The listed positions of every row. -/
def listed (x : FVec Ideal S2048x768 .f32) (w : FVec Ideal S768x16384 .f32) (b : FVec Ideal S768 .f32) : IVec S2048x64 32 :=
  (Host.topK S2048x64 1 (FloatOps.cmpfTotal (F := Ideal) (φ := .f32) .gt) (Host.absf (feats x w b)) sliceFits_S2048x16384_S2048x64).2

variable (x : FVec Ideal S2048x768 .f32) (w : FVec Ideal S768x16384 .f32) (b : FVec Ideal S768 .f32)

/-- A row of the arguments. -/
abbrev rowOf (r : Fin 2048) : Fin 768 → EReal := fun k => x (ix2 r k)

/-- The bias, by position. -/
abbrev biasOf : Fin 768 → EReal := fun k => b (ix1 k)

/-- The weights, by row and column. -/
abbrev weightsOf : Fin 768 → Fin 16384 → EReal := fun k j => w (ix2 k j)

/-- A feature at an index. -/
theorem feats_apply (r : Fin 2048) (j : Fin 16384) : feats x w b (ix2 r j) = Spec.feat (rowOf x r) (biasOf b) (weightsOf w) j := by
  unfold feats Spec.feat
  pointwise

/-- A magnitude at an index. -/
theorem mags_apply (r : Fin 2048) (j : Fin 16384) : Host.absf (feats x w b) (ix2 r j) = Spec.mag (rowOf x r) (biasOf b) (weightsOf w) j := by
  unfold Spec.mag
  rw [← feats_apply]
  rfl

/-- The `k`-th listed position of row `r`. -/
def pos (r : Fin 2048) (k : Fin 64) : Fin 16384 := order (Spec.mag (rowOf x r) (biasOf b) (weightsOf w)) (up (by decide : 64 ≤ 16384) k)

/-- The listed positions are those of the greatest magnitudes. -/
theorem listed_apply (r : Fin 2048) (k : Fin 64) : listed x w b (ix2 r k) = BitVec.ofNat 32 (pos x w b r k).val := by
  unfold listed pos
  have h := topK_snd (Host.absf (feats x w b)) sliceFits_S2048x16384_S2048x64 (by decide : 64 ≤ 16384) r k
  have hf : (fun j => Host.absf (feats x w b) (ix2 r j)) = Spec.mag (rowOf x r) (biasOf b) (weightsOf w) := funext fun j => mags_apply x w b r j
  rw [hf] at h
  exact h

open Classical in
/-- The sparse features of a row: the listed ones, the others zero. -/
def kept (r : Fin 2048) (j : Fin 16384) : EReal := if ∃ k, pos x w b r k = j then Spec.feat (rowOf x r) (biasOf b) (weightsOf w) j else 0

/-- The sparse features at an index. -/
theorem encoded_kept (r : Fin 2048) (j : Fin 16384) : encoded (feats x w b) (listed x w b) (ix2 r j) = kept x w b r j := by
  rw [encoded_apply (listed x w b) (pos x w b) (listed_apply x w b), feats_apply]
  rfl

/-- The reference's result from its sparse features. -/
def decoded (e : FVec Ideal S2048x16384 .f32) : FVec Ideal S2048x768 .f32 :=
  addf (Host.dotGeneral dot_S2048x16384_S16384x768_S2048x768_1_0_0_1_n_n none e (transpose S16384x768 [1, 0] w transposes_S768x16384_S16384x768_1_0)) (broadcastInDim S2048x768 ![0, 1] bcast_S1x768_S2048x768_0_1 (broadcastInDim S1x768 ![1] bcast_S768_S1x768_1 b))

/-- The decoded rows at an index. -/
theorem decoded_apply (e : FVec Ideal S2048x16384 .f32) (r : Fin 2048) (l : Fin 768) :
    decoded w b e (ix2 r l) = Spec.decode (fun j => e (ix2 r j)) (biasOf b) (weightsOf w) l := by
  unfold decoded Spec.decode
  pointwise

/-- The reference's result at an index: the row's listed features, decoded. -/
theorem result_apply (m : (ℓ : Loc nD τ sig) → Buf (Elt Ideal) ℓ) (c : Dev nD) (r : Fin 2048) (l : Fin 768) :
    res_main_v28 m c (ix2 r l)
      = Spec.decode (kept (m ((c : Thread nD τ).loc main_arg0)) (m ((c : Thread nD τ).loc main_arg1)) (m ((c : Thread nD τ).loc main_arg2)) r)
          (biasOf (m ((c : Thread nD τ).loc main_arg2))) (weightsOf (m ((c : Thread nD τ).loc main_arg1))) l := by
  have h : res_main_v28 m c = decoded (m ((c : Thread nD τ).loc main_arg1)) (m ((c : Thread nD τ).loc main_arg2))
      (encoded (feats (m ((c : Thread nD τ).loc main_arg0)) (m ((c : Thread nD τ).loc main_arg1)) (m ((c : Thread nD τ).loc main_arg2)))
        (listed (m ((c : Thread nD τ).loc main_arg0)) (m ((c : Thread nD τ).loc main_arg1)) (m ((c : Thread nD τ).loc main_arg2)))) := by
    unfold res_main_v28 decoded encoded places taken bounded rows wrapped listed feats
    rfl
  rw [h]
  refine (decoded_apply _ _ _ r l).trans ?_
  exact congrArg (fun e => Spec.decode e _ _ l) (funext fun j => encoded_kept _ _ _ r j)

/-- A magnitude is not negative. -/
theorem mag_nonneg (p q : Fin 768 → EReal) (u : Fin 768 → Fin 16384 → EReal) (j : Fin 16384) : 0 ≤ Spec.mag p q u j := by
  unfold Spec.mag
  generalize Spec.feat p q u j = a
  show (0 : EReal) ≤ max a (-a)
  rcases le_total 0 a with h | h
  · exact le_max_of_le_left h
  · exact le_max_of_le_right (EReal.neg_nonneg.2 h)

/-- A feature of magnitude zero is zero. -/
theorem feat_zero (p q : Fin 768 → EReal) (u : Fin 768 → Fin 16384 → EReal) (j : Fin 16384) (h : Spec.mag p q u j = 0) : Spec.feat p q u j = 0 := by
  unfold Spec.mag at h
  revert h
  generalize Spec.feat p q u j = a
  intro h
  have h' : max a (-a) = 0 := h
  by_contra hn
  exact (Ideal.zero_lt_max_neg_iff a |>.2 hn).ne' h'

/-- Where the mask is set, the features that reach the searched pattern are the listed ones. -/
theorem searched_eq [On_separated.Facts] (r : Fin 2048) (l : Fin 768) (h : On_separated.fn (F := Ideal) x w b (ix2 r l) = 1#1) :
    Spec.searched (rowOf x r) (biasOf b) (weightsOf w) = kept x w b r := by
  funext j
  have hs := select_iff_listed (Spec.mag (rowOf x r) (biasOf b) (weightsOf w)) (mag_nonneg _ _ _) (by decide) (On_separated.sep_of_fn x w b r l h) j
  unfold Spec.searched kept
  rcases hs with h0 | hs
  · rw [feat_zero _ _ _ _ h0]
    split <;> split <;> rfl
  · by_cases hk : ∃ k, pos x w b r k = j
    · rw [if_pos hk, if_pos (hs.2 hk)]
    · rw [if_neg hk, if_neg (fun hv => hk (hs.1 hv))]

end Cert.Proof.Reference

end
-- ==== Proof.lean ====
/- The proof of the certificate's claims: the frames of the three programs, the kernel's being its ideal version's,
   and, where the mask is set, the equality of the kernel's result and the reference's over the extended reals. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Mask
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference ends with its semaphores at zero and its arguments kept. -/
theorem quiescent_reference : quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- The mask's shape relations hold. -/
instance : Cert.On_separated.Facts := Cert.On_separated.facts

/-- Where the mask is set, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (r : Fin 2048) (l : Fin 768)
    (h : Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 r l) = 1#1) :
    Cert.ReferenceIdeal.Value.res_main_v28 m' c (ix2 r l) = Array.result m c (ix2 r l) := by
  rw [Reference.result_apply m' c r l, h0, h1, h2, ← Reference.searched_eq _ _ _ r l h]
  rfl

/-- Where the mask is set, the kernel and the reference compute the same result. -/
theorem algebraic : algebraic_KernelIdeal_ReferenceIdeal_on_separated (hKernelIdeal := Cert.KernelIdeal.Gen.facts) (hReferenceIdeal := Cert.ReferenceIdeal.Gen.facts)
    (hOn_separated := Cert.On_separated.facts) := fun m g m' g' _ hm =>
  ⟨Array.result m,
    (θ_run Cert.KernelIdeal.defs _ _).mono (fun _ h c => ⟨fun i _ => congrFun (h c).1 i, (h c).2⟩) (Array.run m g),
    (θ_run Cert.ReferenceIdeal.defs _ _).mono (fun _ h c => ⟨fun i hi => (congrFun (h c).1 i).trans (by
      rw [eq_ix2 i] at hi ⊢
      exact result_eq m m' c (hm c).1 (hm c).2.1 (hm c).2.2 (i 0) (i 1) hi), (h c).2⟩) (Cert.ReferenceIdeal.Value.run m' g')⟩

/-- All five claims. -/
theorem claim : Cert.Claim := ⟨Cert.Kernel.Gen.facts, Cert.KernelIdeal.Gen.facts, Cert.ReferenceIdeal.Gen.facts, Cert.On_separated.facts,
  fun m ρ _ => Cert.Kernel.Gen.frame m ρ, fun m ρ _ => Cert.KernelIdeal.Gen.frame m ρ, quiescent_reference, trivial, algebraic⟩

end Cert.Proof

end
